-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x2048 : Shape := ⟨3, ![3, 2048, 2048]⟩
abbrev S3 : Shape := ⟨1, ![3]⟩
abbrev S3x1x1 : Shape := ⟨3, ![3, 1, 1]⟩
abbrev S_ : Shape := ⟨0, ![]⟩
abbrev S2048x2048 : Shape := ⟨2, ![2048, 2048]⟩
abbrev S2048x2050 : Shape := ⟨2, ![2048, 2050]⟩
abbrev S226x226 : Shape := ⟨2, ![226, 226]⟩
abbrev S51076 : Shape := ⟨1, ![51076]⟩
abbrev S1024 : Shape := ⟨1, ![1024]⟩
abbrev S3x512x512 : Shape := ⟨3, ![3, 512, 512]⟩
abbrev S1x2048x2048 : Shape := ⟨3, ![1, 2048, 2048]⟩
abbrev S1x512x512 : Shape := ⟨3, ![1, 512, 512]⟩
abbrev S16x128 : Shape := ⟨2, ![16, 128]⟩
abbrev S1 : Shape := ⟨1, ![1]⟩
abbrev S1x24x256 : Shape := ⟨3, ![1, 24, 256]⟩
abbrev S24x256 : Shape := ⟨2, ![24, 256]⟩
abbrev S16x256 : Shape := ⟨2, ![16, 256]⟩
abbrev S1x16x128 : Shape := ⟨3, ![1, 16, 128]⟩

abbrev nBuf : Space → Nat
  | .hbm => 97
  | .vmem => 4
  | .smem => 2
  | _ => 0

abbrev bufTy : (tb : Table) → Fin (tcTables nBuf tb) → BufTy
  | .hbm, ⟨0, _⟩ => ⟨S3x2048x2048, .f32⟩
  | .hbm, ⟨1, _⟩ => ⟨S3, .f32⟩
  | .hbm, ⟨2, _⟩ => ⟨S3x1x1, .f32⟩
  | .hbm, ⟨3, _⟩ => ⟨S3x2048x2048, .f32⟩
  | .hbm, ⟨4, _⟩ => ⟨S3x2048x2048, .f32⟩
  | .hbm, ⟨5, _⟩ => ⟨S_, .f32⟩
  | .hbm, ⟨6, _⟩ => ⟨S2048x2048, .f32⟩
  | .hbm, ⟨7, _⟩ => ⟨S_, .i32⟩
  | .hbm, ⟨8, _⟩ => ⟨S_, .f32⟩
  | .hbm, ⟨9, _⟩ => ⟨S2048x2050, .f32⟩
  | .hbm, ⟨10, _⟩ => ⟨S_, .f32⟩
  | .hbm, ⟨11, _⟩ => ⟨S_, .f32⟩
  | .hbm, ⟨12, _⟩ => ⟨S2048x2050, .f32⟩
  | .hbm, ⟨13, _⟩ => ⟨S_, .f32⟩
  | .hbm, ⟨14, _⟩ => ⟨S_, .f32⟩
  | .hbm, ⟨15, _⟩ => ⟨S2048x2050, .f32⟩
  | .hbm, ⟨16, _⟩ => ⟨S2048x2050, .f32⟩
  | .hbm, ⟨17, _⟩ => ⟨S_, .f32⟩
  | .hbm, ⟨18, _⟩ => ⟨S_, .f32⟩
  | .hbm, ⟨19, _⟩ => ⟨S2048x2050, .f32⟩
  | .hbm, ⟨20, _⟩ => ⟨S_, .f32⟩
  | .hbm, ⟨21, _⟩ => ⟨S_, .f32⟩
  | .hbm, ⟨22, _⟩ => ⟨S2048x2050, .f32⟩
  | .hbm, ⟨23, _⟩ => ⟨S226x226, .f32⟩
  | .hbm, ⟨24, _⟩ => ⟨S226x226, .f32⟩
  | .hbm, ⟨25, _⟩ => ⟨S226x226, .f32⟩
  | .hbm, ⟨26, _⟩ => ⟨S226x226, .f32⟩
  | .hbm, ⟨27, _⟩ => ⟨S226x226, .f32⟩
  | .hbm, ⟨28, _⟩ => ⟨S226x226, .f32⟩
  | .hbm, ⟨29, _⟩ => ⟨S226x226, .f32⟩
  | .hbm, ⟨30, _⟩ => ⟨S226x226, .f32⟩
  | .hbm, ⟨31, _⟩ => ⟨S226x226, .f32⟩
  | .hbm, ⟨32, _⟩ => ⟨S226x226, .f32⟩
  | .hbm, ⟨33, _⟩ => ⟨S226x226, .f32⟩
  | .hbm, ⟨34, _⟩ => ⟨S51076, .f32⟩
  | .hbm, ⟨35, _⟩ => ⟨S226x226, .f32⟩
  | .hbm, ⟨36, _⟩ => ⟨S226x226, .f32⟩
  | .hbm, ⟨37, _⟩ => ⟨S226x226, .f32⟩
  | .hbm, ⟨38, _⟩ => ⟨S51076, .f32⟩
  | .hbm, ⟨39, _⟩ => ⟨S51076, .f32⟩
  | .hbm, ⟨40, _⟩ => ⟨S_, .f32⟩
  | .hbm, ⟨41, _⟩ => ⟨S51076, .f32⟩
  | .hbm, ⟨42, _⟩ => ⟨S51076, .f32⟩
  | .hbm, ⟨43, _⟩ => ⟨S51076, .f32⟩
  | .hbm, ⟨44, _⟩ => ⟨S_, .f32⟩
  | .hbm, ⟨45, _⟩ => ⟨S51076, .f32⟩
  | .hbm, ⟨46, _⟩ => ⟨S51076, .f32⟩
  | .hbm, ⟨47, _⟩ => ⟨S51076, .f32⟩
  | .hbm, ⟨48, _⟩ => ⟨S51076, .i32⟩
  | .hbm, ⟨49, _⟩ => ⟨S51076, .f32⟩
  | .hbm, ⟨50, _⟩ => ⟨S51076, .i32⟩
  | .hbm, ⟨51, _⟩ => ⟨S1024, .i32⟩
  | .hbm, ⟨52, _⟩ => ⟨S_, .i32⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S1024, .i32⟩
  | .hbm, ⟨61, _⟩ => ⟨S1024, .i32⟩
  | .hbm, ⟨62, _⟩ => ⟨S_, .i32⟩
  | .hbm, ⟨63, _⟩ => ⟨S1024, .i32⟩
  | .hbm, ⟨64, _⟩ => ⟨S1024, .i1⟩
  | .hbm, ⟨65, _⟩ => ⟨S1024, .i1⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S_, .i32⟩
  | .hbm, ⟨71, _⟩ => ⟨S1024, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S1024, .i32⟩
  | .hbm, ⟨79, _⟩ => ⟨S1024, .i32⟩
  | .hbm, ⟨80, _⟩ => ⟨S_, .i32⟩
  | .hbm, ⟨81, _⟩ => ⟨S1024, .i32⟩
  | .hbm, ⟨82, _⟩ => ⟨S1024, .i1⟩
  | .hbm, ⟨83, _⟩ => ⟨S_, .i32⟩
  | .hbm, ⟨84, _⟩ => ⟨S1024, .i32⟩
  | .hbm, ⟨85, _⟩ => ⟨S1024, .i1⟩
  | .hbm, ⟨86, _⟩ => ⟨S_, .i32⟩
  | .hbm, ⟨87, _⟩ => ⟨S_, .i1⟩
  | .hbm, ⟨88, _⟩ => ⟨S1024, .i1⟩
  | .hbm, ⟨89, _⟩ => ⟨S1024, .i1⟩
  | .hbm, ⟨90, _⟩ => ⟨S1024, .i1⟩
  | .hbm, ⟨91, _⟩ => ⟨S1024, .i32⟩
  | .hbm, ⟨92, _⟩ => ⟨S1024, .i32⟩
  | .hbm, ⟨93, _⟩ => ⟨S1024, .i32⟩
  | .hbm, ⟨94, _⟩ => ⟨S_, .i32⟩
  | .hbm, ⟨95, _⟩ => ⟨S1024, .i32⟩
  | .hbm, ⟨96, _⟩ => ⟨S3x512x512, .f32⟩
  | .local _ .vmem, ⟨0, _⟩ => ⟨S1x2048x2048, .f32⟩
  | .local _ .vmem, ⟨1, _⟩ => ⟨S1x2048x2048, .f32⟩
  | .local _ .vmem, ⟨2, _⟩ => ⟨S1x512x512, .f32⟩
  | .local _ .vmem, ⟨3, _⟩ => ⟨S1x512x512, .f32⟩
  | .local _ .smem, ⟨0, _⟩ => ⟨S1024, .i32⟩
  | .local _ .smem, ⟨1, _⟩ => ⟨S1024, .i32⟩
  | _, _ => ⟨S3x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_call1_call0_cst : Ref sig .tc := ⟨.hbm, 10, rfl⟩
abbrev main_call1_call0_v0 : Ref sig .tc := ⟨.hbm, 11, rfl⟩
abbrev main_v5 : Ref sig .tc := ⟨.hbm, 12, rfl⟩
abbrev main_call2_call0_cst : Ref sig .tc := ⟨.hbm, 13, rfl⟩
abbrev main_call2_call0_v0 : Ref sig .tc := ⟨.hbm, 14, rfl⟩
abbrev main_v6 : Ref sig .tc := ⟨.hbm, 15, rfl⟩
abbrev main_v7 : Ref sig .tc := ⟨.hbm, 16, rfl⟩
abbrev main_call3_call0_cst : Ref sig .tc := ⟨.hbm, 17, rfl⟩
abbrev main_call3_call0_v0 : Ref sig .tc := ⟨.hbm, 18, rfl⟩
abbrev main_v8 : Ref sig .tc := ⟨.hbm, 19, rfl⟩
abbrev main_call4_call0_cst : Ref sig .tc := ⟨.hbm, 20, rfl⟩
abbrev main_call4_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call5_v0 : Ref sig .tc := ⟨.hbm, 48, rfl⟩
abbrev main_call5_v1_0 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_call6_v0 : Ref sig .tc := ⟨.hbm, 53, rfl⟩
abbrev main_call6_v1 : Ref sig .tc := ⟨.hbm, 54, rfl⟩
abbrev main_call6_v2 : Ref sig .tc := ⟨.hbm, 55, rfl⟩
abbrev main_call6_v3 : Ref sig .tc := ⟨.hbm, 56, rfl⟩
abbrev main_call6_v4 : Ref sig .tc := ⟨.hbm, 57, rfl⟩
abbrev main_call6_v5 : Ref sig .tc := ⟨.hbm, 58, rfl⟩
abbrev main_call6_v6 : Ref sig .tc := ⟨.hbm, 59, rfl⟩
abbrev main_call6_v7 : Ref sig .tc := ⟨.hbm, 60, rfl⟩
abbrev main_call6_v8 : Ref sig .tc := ⟨.hbm, 61, rfl⟩
abbrev main_call6_c : Ref sig .tc := ⟨.hbm, 62, rfl⟩
abbrev main_call6_v9 : Ref sig .tc := ⟨.hbm, 63, rfl⟩
abbrev main_call6_v10 : Ref sig .tc := ⟨.hbm, 64, rfl⟩
abbrev main_call6_v11 : Ref sig .tc := ⟨.hbm, 65, rfl⟩
abbrev main_call6_c_0 : Ref sig .tc := ⟨.hbm, 66, rfl⟩
abbrev main_call6_v12 : Ref sig .tc := ⟨.hbm, 67, rfl⟩
abbrev main_call6_v13 : Ref sig .tc := ⟨.hbm, 68, rfl⟩
abbrev main_v35 : Ref sig .tc := ⟨.hbm, 69, rfl⟩
abbrev main_c_4 : Ref sig .tc := ⟨.hbm, 70, rfl⟩
abbrev main_v36 : Ref sig .tc := ⟨.hbm, 71, rfl⟩
abbrev main_c_5 : Ref sig .tc := ⟨.hbm, 72, rfl⟩
abbrev main_call7_v0 : Ref sig .tc := ⟨.hbm, 73, rfl⟩
abbrev main_call7_c : Ref sig .tc := ⟨.hbm, 74, rfl⟩
abbrev main_call7_v1 : Ref sig .tc := ⟨.hbm, 75, rfl⟩
abbrev main_call7_c_0 : Ref sig .tc := ⟨.hbm, 76, rfl⟩
abbrev main_call7_v2 : Ref sig .tc := ⟨.hbm, 77, rfl⟩
abbrev main_call7_v3 : Ref sig .tc := ⟨.hbm, 78, rfl⟩
abbrev main_call7_v4 : Ref sig .tc := ⟨.hbm, 79, rfl⟩
abbrev main_call7_c_1 : Ref sig .tc := ⟨.hbm, 80, rfl⟩
abbrev main_call7_v5 : Ref sig .tc := ⟨.hbm, 81, rfl⟩
abbrev main_call7_v6 : Ref sig .tc := ⟨.hbm, 82, rfl⟩
abbrev main_call7_c_2 : Ref sig .tc := ⟨.hbm, 83, rfl⟩
abbrev main_call7_v7 : Ref sig .tc := ⟨.hbm, 84, rfl⟩
abbrev main_call7_v8 : Ref sig .tc := ⟨.hbm, 85, rfl⟩
abbrev main_call7_c_3 : Ref sig .tc := ⟨.hbm, 86, rfl⟩
abbrev main_call7_v9 : Ref sig .tc := ⟨.hbm, 87, rfl⟩
abbrev main_call7_v10 : Ref sig .tc := ⟨.hbm, 88, rfl⟩
abbrev main_call7_v11 : Ref sig .tc := ⟨.hbm, 89, rfl⟩
abbrev main_call7_v12 : Ref sig .tc := ⟨.hbm, 90, rfl⟩
abbrev main_call7_v13 : Ref sig .tc := ⟨.hbm, 91, rfl⟩
abbrev main_call7_v14 : Ref sig .tc := ⟨.hbm, 92, rfl⟩
abbrev main_v38 : Ref sig .tc := ⟨.hbm, 93, rfl⟩
abbrev main_c_6 : Ref sig .tc := ⟨.hbm, 94, rfl⟩
abbrev main_v39 : Ref sig .tc := ⟨.hbm, 95, rfl⟩
abbrev main_v41 : Ref sig .tc := ⟨.hbm, 96, rfl⟩
abbrev main_v37 : Ref sig .tc := ⟨.smem, 0, rfl⟩
abbrev main_v40 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

abbrev pre0 : Pipeline.Prefetch sig := ⟨2, ![main_v37.idx, main_v40.idx], fun | 0 => main_v37.names | 1 => main_v40.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c128_i32 : BitVec 32 := 128#32
  let v1 : BitVec 32 := Scalar.addi c0_i32 c128_i32
  let c1_i32 : BitVec 32 := 1#32
  ⟨c0_i32, v1, c1_i32⟩
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let c8_i32 : BitVec 32 := 8#32
  let v30 : BitVec 32 := Scalar.muli arg5 c8_i32
  let c0_i32_13 : BitVec 32 := 0#32
  let v31 : BitVec 32 := Scalar.addi v30 c0_i32_13
  let v32 : Index := Scalar.indexCast v31
  ![v32.toNat]
def k0_mult1 (v35 : BitVec 32) : BitVec 32 :=
  let c0_i32_15 : BitVec 32 := 0#32
  let v37 : BitVec 1 := Scalar.cmpi .sgt v35 c0_i32_15
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c128_i32_14 : BitVec 32 := 128#32
  let c0_i32_17 : BitVec 32 := 0#32
  let v42 : BitVec 1 := Scalar.cmpi .sgt c128_i32_14 c0_i32_17
  let v43 : BitVec 32 := Scalar.extui v42
  let c0_i32_18 : BitVec 32 := 0#32
  let v44 : BitVec 1 := Scalar.cmpi .slt c128_i32_14 c0_i32_18
  let v45 : BitVec 32 := Scalar.extui v44
  let v46 : BitVec 32 := Scalar.subi v43 v45
  let v47 : BitVec 1 := Scalar.cmpi .ne v41 v46
  let v48 : BitVec 32 := Scalar.remsi v35 c128_i32_14
  let c0_i32_19 : BitVec 32 := 0#32
  let v49 : BitVec 1 := Scalar.cmpi .ne v48 c0_i32_19
  let v50 : BitVec 1 := Scalar.andi v47 v49
  let v36 : BitVec 32 := Scalar.divsi v35 c128_i32_14
  let c1_i32_20 : BitVec 32 := 1#32
  let v51 : BitVec 32 := Scalar.subi v36 c1_i32_20
  let v52 : BitVec 32 := Scalar.select v50 v51 v36
  let c128_i32_21 : BitVec 32 := 128#32
  let v53 : BitVec 32 := Scalar.muli v52 c128_i32_21
  let c1792_i32 : BitVec 32 := 1792#32
  let v54 : BitVec 32 := Scalar.minsi v53 c1792_i32
  v54

def k0_mult2 (v33 : BitVec 32) : BitVec 32 :=
  let c0_i32_23 : BitVec 32 := 0#32
  let v58 : BitVec 1 := Scalar.cmpi .sgt v33 c0_i32_23
  let v59 : BitVec 32 := Scalar.extui v58
  let c0_i32_24 : BitVec 32 := 0#32
  let v60 : BitVec 1 := Scalar.cmpi .slt v33 c0_i32_24
  let v61 : BitVec 32 := Scalar.extui v60
  let v62 : BitVec 32 := Scalar.subi v59 v61
  let c8_i32_22 : BitVec 32 := 8#32
  let c0_i32_25 : BitVec 32 := 0#32
  let v63 : BitVec 1 := Scalar.cmpi .sgt c8_i32_22 c0_i32_25
  let v64 : BitVec 32 := Scalar.extui v63
  let c0_i32_26 : BitVec 32 := 0#32
  let v65 : BitVec 1 := Scalar.cmpi .slt c8_i32_22 c0_i32_26
  let v66 : BitVec 32 := Scalar.extui v65
  let v67 : BitVec 32 := Scalar.subi v64 v66
  let v68 : BitVec 1 := Scalar.cmpi .ne v62 v67
  let v69 : BitVec 32 := Scalar.remsi v33 c8_i32_22
  let c0_i32_27 : BitVec 32 := 0#32
  let v70 : BitVec 1 := Scalar.cmpi .ne v69 c0_i32_27
  let v71 : BitVec 1 := Scalar.andi v68 v70
  let v57 : BitVec 32 := Scalar.divsi v33 c8_i32_22
  let c1_i32_28 : BitVec 32 := 1#32
  let v72 : BitVec 32 := Scalar.subi v57 c1_i32_28
  let v73 : BitVec 32 := Scalar.select v71 v72 v57
  let c8_i32_29 : BitVec 32 := 8#32
  let v74 : BitVec 32 := Scalar.muli v73 c8_i32_29
  v74

def k0_chk2 (v33 : BitVec 32) : Prop :=
  (8 ∣ (k0_mult2 v33).toNat)
theorem k0_mult2_dvd : ∀ (v33 : BitVec 32) (k0_hw2 : k0_chk2 v33), 8 ∣ (k0_mult2 v33).toNat := fun v33 k0_hw2 => k0_hw2

def k0_off2 (v33 : BitVec 32) (v35 : BitVec 32) : Fin 3 → Nat :=
  let c0 : Index := 0#32
  let c0_i32_23 : BitVec 32 := 0#32
  let v58 : BitVec 1 := Scalar.cmpi .sgt v33 c0_i32_23
  let v59 : BitVec 32 := Scalar.extui v58
  let c0_i32_24 : BitVec 32 := 0#32
  let v60 : BitVec 1 := Scalar.cmpi .slt v33 c0_i32_24
  let v61 : BitVec 32 := Scalar.extui v60
  let v62 : BitVec 32 := Scalar.subi v59 v61
  let c8_i32_22 : BitVec 32 := 8#32
  let c0_i32_25 : BitVec 32 := 0#32
  let v63 : BitVec 1 := Scalar.cmpi .sgt c8_i32_22 c0_i32_25
  let v64 : BitVec 32 := Scalar.extui v63
  let c0_i32_26 : BitVec 32 := 0#32
  let v65 : BitVec 1 := Scalar.cmpi .slt c8_i32_22 c0_i32_26
  let v66 : BitVec 32 := Scalar.extui v65
  let v67 : BitVec 32 := Scalar.subi v64 v66
  let v68 : BitVec 1 := Scalar.cmpi .ne v62 v67
  let v69 : BitVec 32 := Scalar.remsi v33 c8_i32_22
  let c0_i32_27 : BitVec 32 := 0#32
  let v70 : BitVec 1 := Scalar.cmpi .ne v69 c0_i32_27
  let v71 : BitVec 1 := Scalar.andi v68 v70
  let v57 : BitVec 32 := Scalar.divsi v33 c8_i32_22
  let c1_i32_28 : BitVec 32 := 1#32
  let v72 : BitVec 32 := Scalar.subi v57 c1_i32_28
  let v73 : BitVec 32 := Scalar.select v71 v72 v57
  let c8_i32_29 : BitVec 32 := 8#32
  let v74 : BitVec 32 := Scalar.muli v73 c8_i32_29
  let v75 : BitVec 32 := v74
  let v77 : Index := Scalar.indexCast v75
  let c0_i32_15 : BitVec 32 := 0#32
  let v37 : BitVec 1 := Scalar.cmpi .sgt v35 c0_i32_15
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c128_i32_14 : BitVec 32 := 128#32
  let c0_i32_17 : BitVec 32 := 0#32
  let v42 : BitVec 1 := Scalar.cmpi .sgt c128_i32_14 c0_i32_17
  let v43 : BitVec 32 := Scalar.extui v42
  let c0_i32_18 : BitVec 32 := 0#32
  let v44 : BitVec 1 := Scalar.cmpi .slt c128_i32_14 c0_i32_18
  let v45 : BitVec 32 := Scalar.extui v44
  let v46 : BitVec 32 := Scalar.subi v43 v45
  let v47 : BitVec 1 := Scalar.cmpi .ne v41 v46
  let v48 : BitVec 32 := Scalar.remsi v35 c128_i32_14
  let c0_i32_19 : BitVec 32 := 0#32
  let v49 : BitVec 1 := Scalar.cmpi .ne v48 c0_i32_19
  let v50 : BitVec 1 := Scalar.andi v47 v49
  let v36 : BitVec 32 := Scalar.divsi v35 c128_i32_14
  let c1_i32_20 : BitVec 32 := 1#32
  let v51 : BitVec 32 := Scalar.subi v36 c1_i32_20
  let v52 : BitVec 32 := Scalar.select v50 v51 v36
  let c128_i32_21 : BitVec 32 := 128#32
  let v53 : BitVec 32 := Scalar.muli v52 c128_i32_21
  let c1792_i32 : BitVec 32 := 1792#32
  let v54 : BitVec 32 := Scalar.minsi v53 c1792_i32
  let v55 : BitVec 32 := v54
  let v78 : Index := Scalar.indexCast v55
  ![0, v77.toNat, v78.toNat]

def k0_chk1 (v33 : BitVec 32) (v35 : BitVec 32) : Prop :=
  (128 ∣ (k0_mult1 v35).toNat) ∧
  (∀ a, (k0_off2 v33 v35) a + S1x24x256.size a ≤ S1x2048x2048.size a)
theorem k0_mult1_dvd : ∀ (v33 : BitVec 32) (v35 : BitVec 32) (k0_hw1 : k0_chk1 v33 v35), 128 ∣ (k0_mult1 v35).toNat := fun v33 v35 k0_hw1 => k0_hw1.1
theorem k0_off2_inb : ∀ (v33 : BitVec 32) (v35 : BitVec 32) (k0_hw1 : k0_chk1 v33 v35), ∀ a, (k0_off2 v33 v35) a + S1x24x256.size a ≤ S1x2048x2048.size a := fun v33 v35 k0_hw1 => k0_hw1.2

def k0_off3 (k0_t1 : Fin k0_t1_loop.trips) : Fin 1 → Nat :=
  let c0_i32 : BitVec 32 := 0#32
  let c1_i32 : BitVec 32 := 1#32
  let arg5 : BitVec 32 := Scf.iv c0_i32 c1_i32 k0_t1
  let c8_i32_43 : BitVec 32 := 8#32
  let v113 : BitVec 32 := Scalar.muli arg5 c8_i32_43
  let c1_i32_44 : BitVec 32 := 1#32
  let v114 : BitVec 32 := Scalar.addi v113 c1_i32_44
  let v115 : Index := Scalar.indexCast v114
  ![v115.toNat]
def k0_mult3 (v118 : BitVec 32) : BitVec 32 :=
  let c0_i32_46 : BitVec 32 := 0#32
  let v120 : BitVec 1 := Scalar.cmpi .sgt v118 c0_i32_46
  let v121 : BitVec 32 := Scalar.extui v120
  let c0_i32_47 : BitVec 32 := 0#32
  let v122 : BitVec 1 := Scalar.cmpi .slt v118 c0_i32_47
  let v123 : BitVec 32 := Scalar.extui v122
  let v124 : BitVec 32 := Scalar.subi v121 v123
  let c128_i32_45 : BitVec 32 := 128#32
  let c0_i32_48 : BitVec 32 := 0#32
  let v125 : BitVec 1 := Scalar.cmpi .sgt c128_i32_45 c0_i32_48
  let v126 : BitVec 32 := Scalar.extui v125
  let c0_i32_49 : BitVec 32 := 0#32
  let v127 : BitVec 1 := Scalar.cmpi .slt c128_i32_45 c0_i32_49
  let v128 : BitVec 32 := Scalar.extui v127
  let v129 : BitVec 32 := Scalar.subi v126 v128
  let v130 : BitVec 1 := Scalar.cmpi .ne v124 v129
  let v131 : BitVec 32 := Scalar.remsi v118 c128_i32_45
  let c0_i32_50 : BitVec 32 := 0#32
  let v132 : BitVec 1 := Scalar.cmpi .ne v131 c0_i32_50
  let v133 : BitVec 1 := Scalar.andi v130 v132
  let v119 : BitVec 32 := Scalar.divsi v118 c128_i32_45
  let c1_i32_51 : BitVec 32 := 1#32
  let v134 : BitVec 32 := Scalar.subi v119 c1_i32_51
  let v135 : BitVec 32 := Scalar.select v133 v134 v119
  let c128_i32_52 : BitVec 32 := 128#32
  let v136 : BitVec 32 := Scalar.muli v135 c128_i32_52
  let c1792_i32_53 : BitVec 32 := 1792#32
  let v137 : BitVec 32 := Scalar.minsi v136 c1792_i32_53
  v137

def k0_mult4 (v116 : BitVec 32) : BitVec 32 :=
  let c0_i32_55 : BitVec 32 := 0#32
  let v141 : BitVec 1 := Scalar.cmpi .sgt v116 c0_i32_55
  let v142 : BitVec 32 := Scalar.extui v141
  let c0_i32_56 : BitVec 32 := 0#32
  let v143 : BitVec 1 := Scalar.cmpi .slt v116 c0_i32_56
  let v144 : BitVec 32 := Scalar.extui v143
  let v145 : BitVec 32 := Scalar.subi v142 v144
  let c8_i32_54 : BitVec 32 := 8#32
  let c0_i32_57 : BitVec 32 := 0#32
  let v146 : BitVec 1 := Scalar.cmpi .sgt c8_i32_54 c0_i32_57
  let v147 : BitVec 32 := Scalar.extui v146
  let c0_i32_58 : BitVec 32 := 0#32
  let v148 : BitVec 1 := Scalar.cmpi .slt c8_i32_54 c0_i32_58
  let v149 : BitVec 32 := Scalar.extui v148
  let v150 : BitVec 32 := Scalar.subi v147 v149
  let v151 : BitVec 1 := Scalar.cmpi .ne v145 v150
  let v152 : BitVec 32 := Scalar.remsi v116 c8_i32_54
  let c0_i32_59 : BitVec 32 := 0#32
  let v153 : BitVec 1 := Scalar.cmpi .ne v152 c0_i32_59
  let v154 : BitVec 1 := Scalar.andi v151 v153
  let v140 : BitVec 32 := Scalar.divsi v116 c8_i32_54
  let c1_i32_60 : BitVec 32 := 1#32
  let v155 : BitVec 32 := Scalar.subi v140 c1_i32_60
  let v156 : BitVec 32 := Scalar.select v154 v155 v140
  let c8_i32_61 : BitVec 32 := 8#32
  let v157 : BitVec 32 := Scalar.muli v156 c8_i32_61
  v157

def k0_chk4 (v116 : BitVec 32) : Prop :=
  (8 ∣ (k0_mult4 v116).toNat)
theorem k0_mult4_dvd : ∀ (v116 : BitVec 32) (k0_hw4 : k0_chk4 v116), 8 ∣ (k0_mult4 v116).toNat := fun v116 k0_hw4 => k0_hw4

def k0_off4 (v116 : BitVec 32) (v118 : BitVec 32) : Fin 3 → Nat :=
  let c0_62 : Index := 0#32
  let c0_i32_55 : BitVec 32 := 0#32
  let v141 : BitVec 1 := Scalar.cmpi .sgt v116 c0_i32_55
  let v142 : BitVec 32 := Scalar.extui v141
  let c0_i32_56 : BitVec 32 := 0#32
  let v143 : BitVec 1 := Scalar.cmpi .slt v116 c0_i32_56
  let v144 : BitVec 32 := Scalar.extui v143
  let v145 : BitVec 32 := Scalar.subi v142 v144
  let c8_i32_54 : BitVec 32 := 8#32
  let c0_i32_57 : BitVec 32 := 0#32
  let v146 : BitVec 1 := Scalar.cmpi .sgt c8_i32_54 c0_i32_57
  let v147 : BitVec 32 := Scalar.extui v146
  let c0_i32_58 : BitVec 32 := 0#32
  let v148 : BitVec 1 := Scalar.cmpi .slt c8_i32_54 c0_i32_58
  let v149 : BitVec 32 := Scalar.extui v148
  let v150 : BitVec 32 := Scalar.subi v147 v149
  let v151 : BitVec 1 := Scalar.cmpi .ne v145 v150
  let v152 : BitVec 32 := Scalar.remsi v116 c8_i32_54
  let c0_i32_59 : BitVec 32 := 0#32
  let v153 : BitVec 1 := Scalar.cmpi .ne v152 c0_i32_59
  let v154 : BitVec 1 := Scalar.andi v151 v153
  let v140 : BitVec 32 := Scalar.divsi v116 c8_i32_54
  let c1_i32_60 : BitVec 32 := 1#32
  let v155 : BitVec 32 := Scalar.subi v140 c1_i32_60
  let v156 : BitVec 32 := Scalar.select v154 v155 v140
  let c8_i32_61 : BitVec 32 := 8#32
  let v157 : BitVec 32 := Scalar.muli v156 c8_i32_61
  let v158 : BitVec 32 := v157
  let v160 : Index := Scalar.indexCast v158
  let c0_i32_46 : BitVec 32 := 0#32
  let v120 : BitVec 1 := Scalar.cmpi .sgt v118 c0_i32_46
  let v121 : BitVec 32 := Scalar.extui v120
  let c0_i32_47 : BitVec 32 := 0#32
  let v122 : BitVec 1 := Scalar.cmpi .slt v118 c0_i32_47
  let v123 : BitVec 32 := Scalar.extui v122
  let v124 : BitVec 32 := Scalar.subi v121 v123
  let c128_i32_45 : BitVec 32 := 128#32
  let c0_i32_48 : BitVec 32 := 0#32
  let v125 : BitVec 1 := Scalar.cmpi .sgt c128_i32_45 c0_i32_48
  let v126 : BitVec 32 := Scalar.extui v125
  let c0_i32_49 : BitVec 32 := 0#32
  let v127 : BitVec 1 := Scalar.cmpi .slt c128_i32_45 c0_i32_49
  let v128 : BitVec 32 := Scalar.extui v127
  let v129 : BitVec 32 := Scalar.subi v126 v128
  let v130 : BitVec 1 := Scalar.cmpi .ne v124 v129
  let v131 : BitVec 32 := Scalar.remsi v118 c128_i32_45
  let c0_i32_50 : BitVec 32 := 0#32
  let v132 : BitVec 1 := Scalar.cmpi .ne v131 c0_i32_50
  let v133 : BitVec 1 := Scalar.andi v130 v132
  let v119 : BitVec 32 := Scalar.divsi v118 c128_i32_45
  let c1_i32_51 : BitVec 32 := 1#32
  let v134 : BitVec 32 := Scalar.subi v119 c1_i32_51
  let v135 : BitVec 32 := Scalar.select v133 v134 v119
  let c128_i32_52 : BitVec 32 := 128#32
  let v136 : BitVec 32 := Scalar.muli v135 c128_i32_52
  let c1792_i32_53 : BitVec 32 := 1792#32
  let v137 : BitVec 32 := Scalar.minsi v136 c1792_i32_53
  let v138 : BitVec 32 := v137
  let v161 : Index := Scalar.indexCast v138
  ![0, v160.toNat, v161.toNat]

def k0_chk3 (v116 : BitVec 32) (v118 : BitVec 32) : Prop :=
  (128 ∣ (k0_mult3 v118).toNat) ∧
  (∀ a, (k0_off4 v116 v118) a + S1x24x256.size a ≤ S1x2048x2048.size a)
theorem k0_mult3_dvd : ∀ (v116 : BitVec 32) (v118 : BitVec 32) (k0_hw3 : k0_chk3 v116 v118), 128 ∣ (k0_mult3 v118).toNat := fun v116 v118 k0_hw3 => k0_hw3.1
theorem k0_off4_inb : ∀ (v116 : BitVec 32) (v118 : BitVec 32) (k0_hw3 : k0_chk3 v116 v118), ∀ a, (k0_off4 v116 v118) a + S1x24x256.size a ≤ S1x2048x2048.size a := fun v116 v118 k0_hw3 => k0_hw3.2

def k0_off5 (k0_t1 : Fin k0_t1_loop.trips) : Fin 1 → Nat :=
  let c0_i32 : BitVec 32 := 0#32
  let c1_i32 : BitVec 32 := 1#32
  let arg5 : BitVec 32 := Scf.iv c0_i32 c1_i32 k0_t1
  let c8_i32_78 : BitVec 32 := 8#32
  let v196 : BitVec 32 := Scalar.muli arg5 c8_i32_78
  let c2_i32 : BitVec 32 := 2#32
  let v197 : BitVec 32 := Scalar.addi v196 c2_i32
  let v198 : Index := Scalar.indexCast v197
  ![v198.toNat]
def k0_mult5 (v201 : BitVec 32) : BitVec 32 :=
  let c0_i32_80 : BitVec 32 := 0#32
  let v203 : BitVec 1 := Scalar.cmpi .sgt v201 c0_i32_80
  let v204 : BitVec 32 := Scalar.extui v203
  let c0_i32_81 : BitVec 32 := 0#32
  let v205 : BitVec 1 := Scalar.cmpi .slt v201 c0_i32_81
  let v206 : BitVec 32 := Scalar.extui v205
  let v207 : BitVec 32 := Scalar.subi v204 v206
  let c128_i32_79 : BitVec 32 := 128#32
  let c0_i32_82 : BitVec 32 := 0#32
  let v208 : BitVec 1 := Scalar.cmpi .sgt c128_i32_79 c0_i32_82
  let v209 : BitVec 32 := Scalar.extui v208
  let c0_i32_83 : BitVec 32 := 0#32
  let v210 : BitVec 1 := Scalar.cmpi .slt c128_i32_79 c0_i32_83
  let v211 : BitVec 32 := Scalar.extui v210
  let v212 : BitVec 32 := Scalar.subi v209 v211
  let v213 : BitVec 1 := Scalar.cmpi .ne v207 v212
  let v214 : BitVec 32 := Scalar.remsi v201 c128_i32_79
  let c0_i32_84 : BitVec 32 := 0#32
  let v215 : BitVec 1 := Scalar.cmpi .ne v214 c0_i32_84
  let v216 : BitVec 1 := Scalar.andi v213 v215
  let v202 : BitVec 32 := Scalar.divsi v201 c128_i32_79
  let c1_i32_85 : BitVec 32 := 1#32
  let v217 : BitVec 32 := Scalar.subi v202 c1_i32_85
  let v218 : BitVec 32 := Scalar.select v216 v217 v202
  let c128_i32_86 : BitVec 32 := 128#32
  let v219 : BitVec 32 := Scalar.muli v218 c128_i32_86
  let c1792_i32_87 : BitVec 32 := 1792#32
  let v220 : BitVec 32 := Scalar.minsi v219 c1792_i32_87
  v220

def k0_mult6 (v199 : BitVec 32) : BitVec 32 :=
  let c0_i32_89 : BitVec 32 := 0#32
  let v224 : BitVec 1 := Scalar.cmpi .sgt v199 c0_i32_89
  let v225 : BitVec 32 := Scalar.extui v224
  let c0_i32_90 : BitVec 32 := 0#32
  let v226 : BitVec 1 := Scalar.cmpi .slt v199 c0_i32_90
  let v227 : BitVec 32 := Scalar.extui v226
  let v228 : BitVec 32 := Scalar.subi v225 v227
  let c8_i32_88 : BitVec 32 := 8#32
  let c0_i32_91 : BitVec 32 := 0#32
  let v229 : BitVec 1 := Scalar.cmpi .sgt c8_i32_88 c0_i32_91
  let v230 : BitVec 32 := Scalar.extui v229
  let c0_i32_92 : BitVec 32 := 0#32
  let v231 : BitVec 1 := Scalar.cmpi .slt c8_i32_88 c0_i32_92
  let v232 : BitVec 32 := Scalar.extui v231
  let v233 : BitVec 32 := Scalar.subi v230 v232
  let v234 : BitVec 1 := Scalar.cmpi .ne v228 v233
  let v235 : BitVec 32 := Scalar.remsi v199 c8_i32_88
  let c0_i32_93 : BitVec 32 := 0#32
  let v236 : BitVec 1 := Scalar.cmpi .ne v235 c0_i32_93
  let v237 : BitVec 1 := Scalar.andi v234 v236
  let v223 : BitVec 32 := Scalar.divsi v199 c8_i32_88
  let c1_i32_94 : BitVec 32 := 1#32
  let v238 : BitVec 32 := Scalar.subi v223 c1_i32_94
  let v239 : BitVec 32 := Scalar.select v237 v238 v223
  let c8_i32_95 : BitVec 32 := 8#32
  let v240 : BitVec 32 := Scalar.muli v239 c8_i32_95
  v240

def k0_chk6 (v199 : BitVec 32) : Prop :=
  (8 ∣ (k0_mult6 v199).toNat)
theorem k0_mult6_dvd : ∀ (v199 : BitVec 32) (k0_hw6 : k0_chk6 v199), 8 ∣ (k0_mult6 v199).toNat := fun v199 k0_hw6 => k0_hw6

def k0_off6 (v199 : BitVec 32) (v201 : BitVec 32) : Fin 3 → Nat :=
  let c0_96 : Index := 0#32
  let c0_i32_89 : BitVec 32 := 0#32
  let v224 : BitVec 1 := Scalar.cmpi .sgt v199 c0_i32_89
  let v225 : BitVec 32 := Scalar.extui v224
  let c0_i32_90 : BitVec 32 := 0#32
  let v226 : BitVec 1 := Scalar.cmpi .slt v199 c0_i32_90
  let v227 : BitVec 32 := Scalar.extui v226
  let v228 : BitVec 32 := Scalar.subi v225 v227
  let c8_i32_88 : BitVec 32 := 8#32
  let c0_i32_91 : BitVec 32 := 0#32
  let v229 : BitVec 1 := Scalar.cmpi .sgt c8_i32_88 c0_i32_91
  let v230 : BitVec 32 := Scalar.extui v229
  let c0_i32_92 : BitVec 32 := 0#32
  let v231 : BitVec 1 := Scalar.cmpi .slt c8_i32_88 c0_i32_92
  let v232 : BitVec 32 := Scalar.extui v231
  let v233 : BitVec 32 := Scalar.subi v230 v232
  let v234 : BitVec 1 := Scalar.cmpi .ne v228 v233
  let v235 : BitVec 32 := Scalar.remsi v199 c8_i32_88
  let c0_i32_93 : BitVec 32 := 0#32
  let v236 : BitVec 1 := Scalar.cmpi .ne v235 c0_i32_93
  let v237 : BitVec 1 := Scalar.andi v234 v236
  let v223 : BitVec 32 := Scalar.divsi v199 c8_i32_88
  let c1_i32_94 : BitVec 32 := 1#32
  let v238 : BitVec 32 := Scalar.subi v223 c1_i32_94
  let v239 : BitVec 32 := Scalar.select v237 v238 v223
  let c8_i32_95 : BitVec 32 := 8#32
  let v240 : BitVec 32 := Scalar.muli v239 c8_i32_95
  let v241 : BitVec 32 := v240
  let v243 : Index := Scalar.indexCast v241
  let c0_i32_80 : BitVec 32 := 0#32
  let v203 : BitVec 1 := Scalar.cmpi .sgt v201 c0_i32_80
  let v204 : BitVec 32 := Scalar.extui v203
  let c0_i32_81 : BitVec 32 := 0#32
  let v205 : BitVec 1 := Scalar.cmpi .slt v201 c0_i32_81
  let v206 : BitVec 32 := Scalar.extui v205
  let v207 : BitVec 32 := Scalar.subi v204 v206
  let c128_i32_79 : BitVec 32 := 128#32
  let c0_i32_82 : BitVec 32 := 0#32
  let v208 : BitVec 1 := Scalar.cmpi .sgt c128_i32_79 c0_i32_82
  let v209 : BitVec 32 := Scalar.extui v208
  let c0_i32_83 : BitVec 32 := 0#32
  let v210 : BitVec 1 := Scalar.cmpi .slt c128_i32_79 c0_i32_83
  let v211 : BitVec 32 := Scalar.extui v210
  let v212 : BitVec 32 := Scalar.subi v209 v211
  let v213 : BitVec 1 := Scalar.cmpi .ne v207 v212
  let v214 : BitVec 32 := Scalar.remsi v201 c128_i32_79
  let c0_i32_84 : BitVec 32 := 0#32
  let v215 : BitVec 1 := Scalar.cmpi .ne v214 c0_i32_84
  let v216 : BitVec 1 := Scalar.andi v213 v215
  let v202 : BitVec 32 := Scalar.divsi v201 c128_i32_79
  let c1_i32_85 : BitVec 32 := 1#32
  let v217 : BitVec 32 := Scalar.subi v202 c1_i32_85
  let v218 : BitVec 32 := Scalar.select v216 v217 v202
  let c128_i32_86 : BitVec 32 := 128#32
  let v219 : BitVec 32 := Scalar.muli v218 c128_i32_86
  let c1792_i32_87 : BitVec 32 := 1792#32
  let v220 : BitVec 32 := Scalar.minsi v219 c1792_i32_87
  let v221 : BitVec 32 := v220
  let v244 : Index := Scalar.indexCast v221
  ![0, v243.toNat, v244.toNat]

def k0_chk5 (v199 : BitVec 32) (v201 : BitVec 32) : Prop :=
  (128 ∣ (k0_mult5 v201).toNat) ∧
  (∀ a, (k0_off6 v199 v201) a + S1x24x256.size a ≤ S1x2048x2048.size a)
theorem k0_mult5_dvd : ∀ (v199 : BitVec 32) (v201 : BitVec 32) (k0_hw5 : k0_chk5 v199 v201), 128 ∣ (k0_mult5 v201).toNat := fun v199 v201 k0_hw5 => k0_hw5.1
theorem k0_off6_inb : ∀ (v199 : BitVec 32) (v201 : BitVec 32) (k0_hw5 : k0_chk5 v199 v201), ∀ a, (k0_off6 v199 v201) a + S1x24x256.size a ≤ S1x2048x2048.size a := fun v199 v201 k0_hw5 => k0_hw5.2

def k0_off7 (k0_t1 : Fin k0_t1_loop.trips) : Fin 1 → Nat :=
  let c0_i32 : BitVec 32 := 0#32
  let c1_i32 : BitVec 32 := 1#32
  let arg5 : BitVec 32 := Scf.iv c0_i32 c1_i32 k0_t1
  let c8_i32_112 : BitVec 32 := 8#32
  let v279 : BitVec 32 := Scalar.muli arg5 c8_i32_112
  let c3_i32 : BitVec 32 := 3#32
  let v280 : BitVec 32 := Scalar.addi v279 c3_i32
  let v281 : Index := Scalar.indexCast v280
  ![v281.toNat]
def k0_mult7 (v284 : BitVec 32) : BitVec 32 :=
  let c0_i32_114 : BitVec 32 := 0#32
  let v286 : BitVec 1 := Scalar.cmpi .sgt v284 c0_i32_114
  let v287 : BitVec 32 := Scalar.extui v286
  let c0_i32_115 : BitVec 32 := 0#32
  let v288 : BitVec 1 := Scalar.cmpi .slt v284 c0_i32_115
  let v289 : BitVec 32 := Scalar.extui v288
  let v290 : BitVec 32 := Scalar.subi v287 v289
  let c128_i32_113 : BitVec 32 := 128#32
  let c0_i32_116 : BitVec 32 := 0#32
  let v291 : BitVec 1 := Scalar.cmpi .sgt c128_i32_113 c0_i32_116
  let v292 : BitVec 32 := Scalar.extui v291
  let c0_i32_117 : BitVec 32 := 0#32
  let v293 : BitVec 1 := Scalar.cmpi .slt c128_i32_113 c0_i32_117
  let v294 : BitVec 32 := Scalar.extui v293
  let v295 : BitVec 32 := Scalar.subi v292 v294
  let v296 : BitVec 1 := Scalar.cmpi .ne v290 v295
  let v297 : BitVec 32 := Scalar.remsi v284 c128_i32_113
  let c0_i32_118 : BitVec 32 := 0#32
  let v298 : BitVec 1 := Scalar.cmpi .ne v297 c0_i32_118
  let v299 : BitVec 1 := Scalar.andi v296 v298
  let v285 : BitVec 32 := Scalar.divsi v284 c128_i32_113
  let c1_i32_119 : BitVec 32 := 1#32
  let v300 : BitVec 32 := Scalar.subi v285 c1_i32_119
  let v301 : BitVec 32 := Scalar.select v299 v300 v285
  let c128_i32_120 : BitVec 32 := 128#32
  let v302 : BitVec 32 := Scalar.muli v301 c128_i32_120
  let c1792_i32_121 : BitVec 32 := 1792#32
  let v303 : BitVec 32 := Scalar.minsi v302 c1792_i32_121
  v303

def k0_mult8 (v282 : BitVec 32) : BitVec 32 :=
  let c0_i32_123 : BitVec 32 := 0#32
  let v307 : BitVec 1 := Scalar.cmpi .sgt v282 c0_i32_123
  let v308 : BitVec 32 := Scalar.extui v307
  let c0_i32_124 : BitVec 32 := 0#32
  let v309 : BitVec 1 := Scalar.cmpi .slt v282 c0_i32_124
  let v310 : BitVec 32 := Scalar.extui v309
  let v311 : BitVec 32 := Scalar.subi v308 v310
  let c8_i32_122 : BitVec 32 := 8#32
  let c0_i32_125 : BitVec 32 := 0#32
  let v312 : BitVec 1 := Scalar.cmpi .sgt c8_i32_122 c0_i32_125
  let v313 : BitVec 32 := Scalar.extui v312
  let c0_i32_126 : BitVec 32 := 0#32
  let v314 : BitVec 1 := Scalar.cmpi .slt c8_i32_122 c0_i32_126
  let v315 : BitVec 32 := Scalar.extui v314
  let v316 : BitVec 32 := Scalar.subi v313 v315
  let v317 : BitVec 1 := Scalar.cmpi .ne v311 v316
  let v318 : BitVec 32 := Scalar.remsi v282 c8_i32_122
  let c0_i32_127 : BitVec 32 := 0#32
  let v319 : BitVec 1 := Scalar.cmpi .ne v318 c0_i32_127
  let v320 : BitVec 1 := Scalar.andi v317 v319
  let v306 : BitVec 32 := Scalar.divsi v282 c8_i32_122
  let c1_i32_128 : BitVec 32 := 1#32
  let v321 : BitVec 32 := Scalar.subi v306 c1_i32_128
  let v322 : BitVec 32 := Scalar.select v320 v321 v306
  let c8_i32_129 : BitVec 32 := 8#32
  let v323 : BitVec 32 := Scalar.muli v322 c8_i32_129
  v323

def k0_chk8 (v282 : BitVec 32) : Prop :=
  (8 ∣ (k0_mult8 v282).toNat)
theorem k0_mult8_dvd : ∀ (v282 : BitVec 32) (k0_hw8 : k0_chk8 v282), 8 ∣ (k0_mult8 v282).toNat := fun v282 k0_hw8 => k0_hw8

def k0_off8 (v282 : BitVec 32) (v284 : BitVec 32) : Fin 3 → Nat :=
  let c0_130 : Index := 0#32
  let c0_i32_123 : BitVec 32 := 0#32
  let v307 : BitVec 1 := Scalar.cmpi .sgt v282 c0_i32_123
  let v308 : BitVec 32 := Scalar.extui v307
  let c0_i32_124 : BitVec 32 := 0#32
  let v309 : BitVec 1 := Scalar.cmpi .slt v282 c0_i32_124
  let v310 : BitVec 32 := Scalar.extui v309
  let v311 : BitVec 32 := Scalar.subi v308 v310
  let c8_i32_122 : BitVec 32 := 8#32
  let c0_i32_125 : BitVec 32 := 0#32
  let v312 : BitVec 1 := Scalar.cmpi .sgt c8_i32_122 c0_i32_125
  let v313 : BitVec 32 := Scalar.extui v312
  let c0_i32_126 : BitVec 32 := 0#32
  let v314 : BitVec 1 := Scalar.cmpi .slt c8_i32_122 c0_i32_126
  let v315 : BitVec 32 := Scalar.extui v314
  let v316 : BitVec 32 := Scalar.subi v313 v315
  let v317 : BitVec 1 := Scalar.cmpi .ne v311 v316
  let v318 : BitVec 32 := Scalar.remsi v282 c8_i32_122
  let c0_i32_127 : BitVec 32 := 0#32
  let v319 : BitVec 1 := Scalar.cmpi .ne v318 c0_i32_127
  let v320 : BitVec 1 := Scalar.andi v317 v319
  let v306 : BitVec 32 := Scalar.divsi v282 c8_i32_122
  let c1_i32_128 : BitVec 32 := 1#32
  let v321 : BitVec 32 := Scalar.subi v306 c1_i32_128
  let v322 : BitVec 32 := Scalar.select v320 v321 v306
  let c8_i32_129 : BitVec 32 := 8#32
  let v323 : BitVec 32 := Scalar.muli v322 c8_i32_129
  let v324 : BitVec 32 := v323
  let v326 : Index := Scalar.indexCast v324
  let c0_i32_114 : BitVec 32 := 0#32
  let v286 : BitVec 1 := Scalar.cmpi .sgt v284 c0_i32_114
  let v287 : BitVec 32 := Scalar.extui v286
  let c0_i32_115 : BitVec 32 := 0#32
  let v288 : BitVec 1 := Scalar.cmpi .slt v284 c0_i32_115
  let v289 : BitVec 32 := Scalar.extui v288
  let v290 : BitVec 32 := Scalar.subi v287 v289
  let c128_i32_113 : BitVec 32 := 128#32
  let c0_i32_116 : BitVec 32 := 0#32
  let v291 : BitVec 1 := Scalar.cmpi .sgt c128_i32_113 c0_i32_116
  let v292 : BitVec 32 := Scalar.extui v291
  let c0_i32_117 : BitVec 32 := 0#32
  let v293 : BitVec 1 := Scalar.cmpi .slt c128_i32_113 c0_i32_117
  let v294 : BitVec 32 := Scalar.extui v293
  let v295 : BitVec 32 := Scalar.subi v292 v294
  let v296 : BitVec 1 := Scalar.cmpi .ne v290 v295
  let v297 : BitVec 32 := Scalar.remsi v284 c128_i32_113
  let c0_i32_118 : BitVec 32 := 0#32
  let v298 : BitVec 1 := Scalar.cmpi .ne v297 c0_i32_118
  let v299 : BitVec 1 := Scalar.andi v296 v298
  let v285 : BitVec 32 := Scalar.divsi v284 c128_i32_113
  let c1_i32_119 : BitVec 32 := 1#32
  let v300 : BitVec 32 := Scalar.subi v285 c1_i32_119
  let v301 : BitVec 32 := Scalar.select v299 v300 v285
  let c128_i32_120 : BitVec 32 := 128#32
  let v302 : BitVec 32 := Scalar.muli v301 c128_i32_120
  let c1792_i32_121 : BitVec 32 := 1792#32
  let v303 : BitVec 32 := Scalar.minsi v302 c1792_i32_121
  let v304 : BitVec 32 := v303
  let v327 : Index := Scalar.indexCast v304
  ![0, v326.toNat, v327.toNat]

def k0_chk7 (v282 : BitVec 32) (v284 : BitVec 32) : Prop :=
  (128 ∣ (k0_mult7 v284).toNat) ∧
  (∀ a, (k0_off8 v282 v284) a + S1x24x256.size a ≤ S1x2048x2048.size a)
theorem k0_mult7_dvd : ∀ (v282 : BitVec 32) (v284 : BitVec 32) (k0_hw7 : k0_chk7 v282 v284), 128 ∣ (k0_mult7 v284).toNat := fun v282 v284 k0_hw7 => k0_hw7.1
theorem k0_off8_inb : ∀ (v282 : BitVec 32) (v284 : BitVec 32) (k0_hw7 : k0_chk7 v282 v284), ∀ a, (k0_off8 v282 v284) a + S1x24x256.size a ≤ S1x2048x2048.size a := fun v282 v284 k0_hw7 => k0_hw7.2

def k0_off9 (k0_t1 : Fin k0_t1_loop.trips) : Fin 1 → Nat :=
  let c0_i32 : BitVec 32 := 0#32
  let c1_i32 : BitVec 32 := 1#32
  let arg5 : BitVec 32 := Scf.iv c0_i32 c1_i32 k0_t1
  let c8_i32_146 : BitVec 32 := 8#32
  let v362 : BitVec 32 := Scalar.muli arg5 c8_i32_146
  let c4_i32_147 : BitVec 32 := 4#32
  let v363 : BitVec 32 := Scalar.addi v362 c4_i32_147
  let v364 : Index := Scalar.indexCast v363
  ![v364.toNat]
def k0_mult9 (v367 : BitVec 32) : BitVec 32 :=
  let c0_i32_149 : BitVec 32 := 0#32
  let v369 : BitVec 1 := Scalar.cmpi .sgt v367 c0_i32_149
  let v370 : BitVec 32 := Scalar.extui v369
  let c0_i32_150 : BitVec 32 := 0#32
  let v371 : BitVec 1 := Scalar.cmpi .slt v367 c0_i32_150
  let v372 : BitVec 32 := Scalar.extui v371
  let v373 : BitVec 32 := Scalar.subi v370 v372
  let c128_i32_148 : BitVec 32 := 128#32
  let c0_i32_151 : BitVec 32 := 0#32
  let v374 : BitVec 1 := Scalar.cmpi .sgt c128_i32_148 c0_i32_151
  let v375 : BitVec 32 := Scalar.extui v374
  let c0_i32_152 : BitVec 32 := 0#32
  let v376 : BitVec 1 := Scalar.cmpi .slt c128_i32_148 c0_i32_152
  let v377 : BitVec 32 := Scalar.extui v376
  let v378 : BitVec 32 := Scalar.subi v375 v377
  let v379 : BitVec 1 := Scalar.cmpi .ne v373 v378
  let v380 : BitVec 32 := Scalar.remsi v367 c128_i32_148
  let c0_i32_153 : BitVec 32 := 0#32
  let v381 : BitVec 1 := Scalar.cmpi .ne v380 c0_i32_153
  let v382 : BitVec 1 := Scalar.andi v379 v381
  let v368 : BitVec 32 := Scalar.divsi v367 c128_i32_148
  let c1_i32_154 : BitVec 32 := 1#32
  let v383 : BitVec 32 := Scalar.subi v368 c1_i32_154
  let v384 : BitVec 32 := Scalar.select v382 v383 v368
  let c128_i32_155 : BitVec 32 := 128#32
  let v385 : BitVec 32 := Scalar.muli v384 c128_i32_155
  let c1792_i32_156 : BitVec 32 := 1792#32
  let v386 : BitVec 32 := Scalar.minsi v385 c1792_i32_156
  v386

def k0_mult10 (v365 : BitVec 32) : BitVec 32 :=
  let c0_i32_158 : BitVec 32 := 0#32
  let v390 : BitVec 1 := Scalar.cmpi .sgt v365 c0_i32_158
  let v391 : BitVec 32 := Scalar.extui v390
  let c0_i32_159 : BitVec 32 := 0#32
  let v392 : BitVec 1 := Scalar.cmpi .slt v365 c0_i32_159
  let v393 : BitVec 32 := Scalar.extui v392
  let v394 : BitVec 32 := Scalar.subi v391 v393
  let c8_i32_157 : BitVec 32 := 8#32
  let c0_i32_160 : BitVec 32 := 0#32
  let v395 : BitVec 1 := Scalar.cmpi .sgt c8_i32_157 c0_i32_160
  let v396 : BitVec 32 := Scalar.extui v395
  let c0_i32_161 : BitVec 32 := 0#32
  let v397 : BitVec 1 := Scalar.cmpi .slt c8_i32_157 c0_i32_161
  let v398 : BitVec 32 := Scalar.extui v397
  let v399 : BitVec 32 := Scalar.subi v396 v398
  let v400 : BitVec 1 := Scalar.cmpi .ne v394 v399
  let v401 : BitVec 32 := Scalar.remsi v365 c8_i32_157
  let c0_i32_162 : BitVec 32 := 0#32
  let v402 : BitVec 1 := Scalar.cmpi .ne v401 c0_i32_162
  let v403 : BitVec 1 := Scalar.andi v400 v402
  let v389 : BitVec 32 := Scalar.divsi v365 c8_i32_157
  let c1_i32_163 : BitVec 32 := 1#32
  let v404 : BitVec 32 := Scalar.subi v389 c1_i32_163
  let v405 : BitVec 32 := Scalar.select v403 v404 v389
  let c8_i32_164 : BitVec 32 := 8#32
  let v406 : BitVec 32 := Scalar.muli v405 c8_i32_164
  v406

def k0_chk10 (v365 : BitVec 32) : Prop :=
  (8 ∣ (k0_mult10 v365).toNat)
theorem k0_mult10_dvd : ∀ (v365 : BitVec 32) (k0_hw10 : k0_chk10 v365), 8 ∣ (k0_mult10 v365).toNat := fun v365 k0_hw10 => k0_hw10

def k0_off10 (v365 : BitVec 32) (v367 : BitVec 32) : Fin 3 → Nat :=
  let c0_165 : Index := 0#32
  let c0_i32_158 : BitVec 32 := 0#32
  let v390 : BitVec 1 := Scalar.cmpi .sgt v365 c0_i32_158
  let v391 : BitVec 32 := Scalar.extui v390
  let c0_i32_159 : BitVec 32 := 0#32
  let v392 : BitVec 1 := Scalar.cmpi .slt v365 c0_i32_159
  let v393 : BitVec 32 := Scalar.extui v392
  let v394 : BitVec 32 := Scalar.subi v391 v393
  let c8_i32_157 : BitVec 32 := 8#32
  let c0_i32_160 : BitVec 32 := 0#32
  let v395 : BitVec 1 := Scalar.cmpi .sgt c8_i32_157 c0_i32_160
  let v396 : BitVec 32 := Scalar.extui v395
  let c0_i32_161 : BitVec 32 := 0#32
  let v397 : BitVec 1 := Scalar.cmpi .slt c8_i32_157 c0_i32_161
  let v398 : BitVec 32 := Scalar.extui v397
  let v399 : BitVec 32 := Scalar.subi v396 v398
  let v400 : BitVec 1 := Scalar.cmpi .ne v394 v399
  let v401 : BitVec 32 := Scalar.remsi v365 c8_i32_157
  let c0_i32_162 : BitVec 32 := 0#32
  let v402 : BitVec 1 := Scalar.cmpi .ne v401 c0_i32_162
  let v403 : BitVec 1 := Scalar.andi v400 v402
  let v389 : BitVec 32 := Scalar.divsi v365 c8_i32_157
  let c1_i32_163 : BitVec 32 := 1#32
  let v404 : BitVec 32 := Scalar.subi v389 c1_i32_163
  let v405 : BitVec 32 := Scalar.select v403 v404 v389
  let c8_i32_164 : BitVec 32 := 8#32
  let v406 : BitVec 32 := Scalar.muli v405 c8_i32_164
  let v407 : BitVec 32 := v406
  let v409 : Index := Scalar.indexCast v407
  let c0_i32_149 : BitVec 32 := 0#32
  let v369 : BitVec 1 := Scalar.cmpi .sgt v367 c0_i32_149
  let v370 : BitVec 32 := Scalar.extui v369
  let c0_i32_150 : BitVec 32 := 0#32
  let v371 : BitVec 1 := Scalar.cmpi .slt v367 c0_i32_150
  let v372 : BitVec 32 := Scalar.extui v371
  let v373 : BitVec 32 := Scalar.subi v370 v372
  let c128_i32_148 : BitVec 32 := 128#32
  let c0_i32_151 : BitVec 32 := 0#32
  let v374 : BitVec 1 := Scalar.cmpi .sgt c128_i32_148 c0_i32_151
  let v375 : BitVec 32 := Scalar.extui v374
  let c0_i32_152 : BitVec 32 := 0#32
  let v376 : BitVec 1 := Scalar.cmpi .slt c128_i32_148 c0_i32_152
  let v377 : BitVec 32 := Scalar.extui v376
  let v378 : BitVec 32 := Scalar.subi v375 v377
  let v379 : BitVec 1 := Scalar.cmpi .ne v373 v378
  let v380 : BitVec 32 := Scalar.remsi v367 c128_i32_148
  let c0_i32_153 : BitVec 32 := 0#32
  let v381 : BitVec 1 := Scalar.cmpi .ne v380 c0_i32_153
  let v382 : BitVec 1 := Scalar.andi v379 v381
  let v368 : BitVec 32 := Scalar.divsi v367 c128_i32_148
  let c1_i32_154 : BitVec 32 := 1#32
  let v383 : BitVec 32 := Scalar.subi v368 c1_i32_154
  let v384 : BitVec 32 := Scalar.select v382 v383 v368
  let c128_i32_155 : BitVec 32 := 128#32
  let v385 : BitVec 32 := Scalar.muli v384 c128_i32_155
  let c1792_i32_156 : BitVec 32 := 1792#32
  let v386 : BitVec 32 := Scalar.minsi v385 c1792_i32_156
  let v387 : BitVec 32 := v386
  let v410 : Index := Scalar.indexCast v387
  ![0, v409.toNat, v410.toNat]

def k0_chk9 (v365 : BitVec 32) (v367 : BitVec 32) : Prop :=
  (128 ∣ (k0_mult9 v367).toNat) ∧
  (∀ a, (k0_off10 v365 v367) a + S1x24x256.size a ≤ S1x2048x2048.size a)
theorem k0_mult9_dvd : ∀ (v365 : BitVec 32) (v367 : BitVec 32) (k0_hw9 : k0_chk9 v365 v367), 128 ∣ (k0_mult9 v367).toNat := fun v365 v367 k0_hw9 => k0_hw9.1
theorem k0_off10_inb : ∀ (v365 : BitVec 32) (v367 : BitVec 32) (k0_hw9 : k0_chk9 v365 v367), ∀ a, (k0_off10 v365 v367) a + S1x24x256.size a ≤ S1x2048x2048.size a := fun v365 v367 k0_hw9 => k0_hw9.2

def k0_off11 (k0_t1 : Fin k0_t1_loop.trips) : Fin 1 → Nat :=
  let c0_i32 : BitVec 32 := 0#32
  let c1_i32 : BitVec 32 := 1#32
  let arg5 : BitVec 32 := Scf.iv c0_i32 c1_i32 k0_t1
  let c8_i32_181 : BitVec 32 := 8#32
  let v445 : BitVec 32 := Scalar.muli arg5 c8_i32_181
  let c5_i32 : BitVec 32 := 5#32
  let v446 : BitVec 32 := Scalar.addi v445 c5_i32
  let v447 : Index := Scalar.indexCast v446
  ![v447.toNat]
def k0_mult11 (v450 : BitVec 32) : BitVec 32 :=
  let c0_i32_183 : BitVec 32 := 0#32
  let v452 : BitVec 1 := Scalar.cmpi .sgt v450 c0_i32_183
  let v453 : BitVec 32 := Scalar.extui v452
  let c0_i32_184 : BitVec 32 := 0#32
  let v454 : BitVec 1 := Scalar.cmpi .slt v450 c0_i32_184
  let v455 : BitVec 32 := Scalar.extui v454
  let v456 : BitVec 32 := Scalar.subi v453 v455
  let c128_i32_182 : BitVec 32 := 128#32
  let c0_i32_185 : BitVec 32 := 0#32
  let v457 : BitVec 1 := Scalar.cmpi .sgt c128_i32_182 c0_i32_185
  let v458 : BitVec 32 := Scalar.extui v457
  let c0_i32_186 : BitVec 32 := 0#32
  let v459 : BitVec 1 := Scalar.cmpi .slt c128_i32_182 c0_i32_186
  let v460 : BitVec 32 := Scalar.extui v459
  let v461 : BitVec 32 := Scalar.subi v458 v460
  let v462 : BitVec 1 := Scalar.cmpi .ne v456 v461
  let v463 : BitVec 32 := Scalar.remsi v450 c128_i32_182
  let c0_i32_187 : BitVec 32 := 0#32
  let v464 : BitVec 1 := Scalar.cmpi .ne v463 c0_i32_187
  let v465 : BitVec 1 := Scalar.andi v462 v464
  let v451 : BitVec 32 := Scalar.divsi v450 c128_i32_182
  let c1_i32_188 : BitVec 32 := 1#32
  let v466 : BitVec 32 := Scalar.subi v451 c1_i32_188
  let v467 : BitVec 32 := Scalar.select v465 v466 v451
  let c128_i32_189 : BitVec 32 := 128#32
  let v468 : BitVec 32 := Scalar.muli v467 c128_i32_189
  let c1792_i32_190 : BitVec 32 := 1792#32
  let v469 : BitVec 32 := Scalar.minsi v468 c1792_i32_190
  v469

def k0_mult12 (v448 : BitVec 32) : BitVec 32 :=
  let c0_i32_192 : BitVec 32 := 0#32
  let v473 : BitVec 1 := Scalar.cmpi .sgt v448 c0_i32_192
  let v474 : BitVec 32 := Scalar.extui v473
  let c0_i32_193 : BitVec 32 := 0#32
  let v475 : BitVec 1 := Scalar.cmpi .slt v448 c0_i32_193
  let v476 : BitVec 32 := Scalar.extui v475
  let v477 : BitVec 32 := Scalar.subi v474 v476
  let c8_i32_191 : BitVec 32 := 8#32
  let c0_i32_194 : BitVec 32 := 0#32
  let v478 : BitVec 1 := Scalar.cmpi .sgt c8_i32_191 c0_i32_194
  let v479 : BitVec 32 := Scalar.extui v478
  let c0_i32_195 : BitVec 32 := 0#32
  let v480 : BitVec 1 := Scalar.cmpi .slt c8_i32_191 c0_i32_195
  let v481 : BitVec 32 := Scalar.extui v480
  let v482 : BitVec 32 := Scalar.subi v479 v481
  let v483 : BitVec 1 := Scalar.cmpi .ne v477 v482
  let v484 : BitVec 32 := Scalar.remsi v448 c8_i32_191
  let c0_i32_196 : BitVec 32 := 0#32
  let v485 : BitVec 1 := Scalar.cmpi .ne v484 c0_i32_196
  let v486 : BitVec 1 := Scalar.andi v483 v485
  let v472 : BitVec 32 := Scalar.divsi v448 c8_i32_191
  let c1_i32_197 : BitVec 32 := 1#32
  let v487 : BitVec 32 := Scalar.subi v472 c1_i32_197
  let v488 : BitVec 32 := Scalar.select v486 v487 v472
  let c8_i32_198 : BitVec 32 := 8#32
  let v489 : BitVec 32 := Scalar.muli v488 c8_i32_198
  v489

def k0_chk12 (v448 : BitVec 32) : Prop :=
  (8 ∣ (k0_mult12 v448).toNat)
theorem k0_mult12_dvd : ∀ (v448 : BitVec 32) (k0_hw12 : k0_chk12 v448), 8 ∣ (k0_mult12 v448).toNat := fun v448 k0_hw12 => k0_hw12

def k0_off12 (v448 : BitVec 32) (v450 : BitVec 32) : Fin 3 → Nat :=
  let c0_199 : Index := 0#32
  let c0_i32_192 : BitVec 32 := 0#32
  let v473 : BitVec 1 := Scalar.cmpi .sgt v448 c0_i32_192
  let v474 : BitVec 32 := Scalar.extui v473
  let c0_i32_193 : BitVec 32 := 0#32
  let v475 : BitVec 1 := Scalar.cmpi .slt v448 c0_i32_193
  let v476 : BitVec 32 := Scalar.extui v475
  let v477 : BitVec 32 := Scalar.subi v474 v476
  let c8_i32_191 : BitVec 32 := 8#32
  let c0_i32_194 : BitVec 32 := 0#32
  let v478 : BitVec 1 := Scalar.cmpi .sgt c8_i32_191 c0_i32_194
  let v479 : BitVec 32 := Scalar.extui v478
  let c0_i32_195 : BitVec 32 := 0#32
  let v480 : BitVec 1 := Scalar.cmpi .slt c8_i32_191 c0_i32_195
  let v481 : BitVec 32 := Scalar.extui v480
  let v482 : BitVec 32 := Scalar.subi v479 v481
  let v483 : BitVec 1 := Scalar.cmpi .ne v477 v482
  let v484 : BitVec 32 := Scalar.remsi v448 c8_i32_191
  let c0_i32_196 : BitVec 32 := 0#32
  let v485 : BitVec 1 := Scalar.cmpi .ne v484 c0_i32_196
  let v486 : BitVec 1 := Scalar.andi v483 v485
  let v472 : BitVec 32 := Scalar.divsi v448 c8_i32_191
  let c1_i32_197 : BitVec 32 := 1#32
  let v487 : BitVec 32 := Scalar.subi v472 c1_i32_197
  let v488 : BitVec 32 := Scalar.select v486 v487 v472
  let c8_i32_198 : BitVec 32 := 8#32
  let v489 : BitVec 32 := Scalar.muli v488 c8_i32_198
  let v490 : BitVec 32 := v489
  let v492 : Index := Scalar.indexCast v490
  let c0_i32_183 : BitVec 32 := 0#32
  let v452 : BitVec 1 := Scalar.cmpi .sgt v450 c0_i32_183
  let v453 : BitVec 32 := Scalar.extui v452
  let c0_i32_184 : BitVec 32 := 0#32
  let v454 : BitVec 1 := Scalar.cmpi .slt v450 c0_i32_184
  let v455 : BitVec 32 := Scalar.extui v454
  let v456 : BitVec 32 := Scalar.subi v453 v455
  let c128_i32_182 : BitVec 32 := 128#32
  let c0_i32_185 : BitVec 32 := 0#32
  let v457 : BitVec 1 := Scalar.cmpi .sgt c128_i32_182 c0_i32_185
  let v458 : BitVec 32 := Scalar.extui v457
  let c0_i32_186 : BitVec 32 := 0#32
  let v459 : BitVec 1 := Scalar.cmpi .slt c128_i32_182 c0_i32_186
  let v460 : BitVec 32 := Scalar.extui v459
  let v461 : BitVec 32 := Scalar.subi v458 v460
  let v462 : BitVec 1 := Scalar.cmpi .ne v456 v461
  let v463 : BitVec 32 := Scalar.remsi v450 c128_i32_182
  let c0_i32_187 : BitVec 32 := 0#32
  let v464 : BitVec 1 := Scalar.cmpi .ne v463 c0_i32_187
  let v465 : BitVec 1 := Scalar.andi v462 v464
  let v451 : BitVec 32 := Scalar.divsi v450 c128_i32_182
  let c1_i32_188 : BitVec 32 := 1#32
  let v466 : BitVec 32 := Scalar.subi v451 c1_i32_188
  let v467 : BitVec 32 := Scalar.select v465 v466 v451
  let c128_i32_189 : BitVec 32 := 128#32
  let v468 : BitVec 32 := Scalar.muli v467 c128_i32_189
  let c1792_i32_190 : BitVec 32 := 1792#32
  let v469 : BitVec 32 := Scalar.minsi v468 c1792_i32_190
  let v470 : BitVec 32 := v469
  let v493 : Index := Scalar.indexCast v470
  ![0, v492.toNat, v493.toNat]

def k0_chk11 (v448 : BitVec 32) (v450 : BitVec 32) : Prop :=
  (128 ∣ (k0_mult11 v450).toNat) ∧
  (∀ a, (k0_off12 v448 v450) a + S1x24x256.size a ≤ S1x2048x2048.size a)
theorem k0_mult11_dvd : ∀ (v448 : BitVec 32) (v450 : BitVec 32) (k0_hw11 : k0_chk11 v448 v450), 128 ∣ (k0_mult11 v450).toNat := fun v448 v450 k0_hw11 => k0_hw11.1
theorem k0_off12_inb : ∀ (v448 : BitVec 32) (v450 : BitVec 32) (k0_hw11 : k0_chk11 v448 v450), ∀ a, (k0_off12 v448 v450) a + S1x24x256.size a ≤ S1x2048x2048.size a := fun v448 v450 k0_hw11 => k0_hw11.2

def k0_off13 (k0_t1 : Fin k0_t1_loop.trips) : Fin 1 → Nat :=
  let c0_i32 : BitVec 32 := 0#32
  let c1_i32 : BitVec 32 := 1#32
  let arg5 : BitVec 32 := Scf.iv c0_i32 c1_i32 k0_t1
  let c8_i32_215 : BitVec 32 := 8#32
  let v528 : BitVec 32 := Scalar.muli arg5 c8_i32_215
  let c6_i32 : BitVec 32 := 6#32
  let v529 : BitVec 32 := Scalar.addi v528 c6_i32
  let v530 : Index := Scalar.indexCast v529
  ![v530.toNat]
def k0_mult13 (v533 : BitVec 32) : BitVec 32 :=
  let c0_i32_217 : BitVec 32 := 0#32
  let v535 : BitVec 1 := Scalar.cmpi .sgt v533 c0_i32_217
  let v536 : BitVec 32 := Scalar.extui v535
  let c0_i32_218 : BitVec 32 := 0#32
  let v537 : BitVec 1 := Scalar.cmpi .slt v533 c0_i32_218
  let v538 : BitVec 32 := Scalar.extui v537
  let v539 : BitVec 32 := Scalar.subi v536 v538
  let c128_i32_216 : BitVec 32 := 128#32
  let c0_i32_219 : BitVec 32 := 0#32
  let v540 : BitVec 1 := Scalar.cmpi .sgt c128_i32_216 c0_i32_219
  let v541 : BitVec 32 := Scalar.extui v540
  let c0_i32_220 : BitVec 32 := 0#32
  let v542 : BitVec 1 := Scalar.cmpi .slt c128_i32_216 c0_i32_220
  let v543 : BitVec 32 := Scalar.extui v542
  let v544 : BitVec 32 := Scalar.subi v541 v543
  let v545 : BitVec 1 := Scalar.cmpi .ne v539 v544
  let v546 : BitVec 32 := Scalar.remsi v533 c128_i32_216
  let c0_i32_221 : BitVec 32 := 0#32
  let v547 : BitVec 1 := Scalar.cmpi .ne v546 c0_i32_221
  let v548 : BitVec 1 := Scalar.andi v545 v547
  let v534 : BitVec 32 := Scalar.divsi v533 c128_i32_216
  let c1_i32_222 : BitVec 32 := 1#32
  let v549 : BitVec 32 := Scalar.subi v534 c1_i32_222
  let v550 : BitVec 32 := Scalar.select v548 v549 v534
  let c128_i32_223 : BitVec 32 := 128#32
  let v551 : BitVec 32 := Scalar.muli v550 c128_i32_223
  let c1792_i32_224 : BitVec 32 := 1792#32
  let v552 : BitVec 32 := Scalar.minsi v551 c1792_i32_224
  v552

def k0_mult14 (v531 : BitVec 32) : BitVec 32 :=
  let c0_i32_226 : BitVec 32 := 0#32
  let v556 : BitVec 1 := Scalar.cmpi .sgt v531 c0_i32_226
  let v557 : BitVec 32 := Scalar.extui v556
  let c0_i32_227 : BitVec 32 := 0#32
  let v558 : BitVec 1 := Scalar.cmpi .slt v531 c0_i32_227
  let v559 : BitVec 32 := Scalar.extui v558
  let v560 : BitVec 32 := Scalar.subi v557 v559
  let c8_i32_225 : BitVec 32 := 8#32
  let c0_i32_228 : BitVec 32 := 0#32
  let v561 : BitVec 1 := Scalar.cmpi .sgt c8_i32_225 c0_i32_228
  let v562 : BitVec 32 := Scalar.extui v561
  let c0_i32_229 : BitVec 32 := 0#32
  let v563 : BitVec 1 := Scalar.cmpi .slt c8_i32_225 c0_i32_229
  let v564 : BitVec 32 := Scalar.extui v563
  let v565 : BitVec 32 := Scalar.subi v562 v564
  let v566 : BitVec 1 := Scalar.cmpi .ne v560 v565
  let v567 : BitVec 32 := Scalar.remsi v531 c8_i32_225
  let c0_i32_230 : BitVec 32 := 0#32
  let v568 : BitVec 1 := Scalar.cmpi .ne v567 c0_i32_230
  let v569 : BitVec 1 := Scalar.andi v566 v568
  let v555 : BitVec 32 := Scalar.divsi v531 c8_i32_225
  let c1_i32_231 : BitVec 32 := 1#32
  let v570 : BitVec 32 := Scalar.subi v555 c1_i32_231
  let v571 : BitVec 32 := Scalar.select v569 v570 v555
  let c8_i32_232 : BitVec 32 := 8#32
  let v572 : BitVec 32 := Scalar.muli v571 c8_i32_232
  v572

def k0_chk14 (v531 : BitVec 32) : Prop :=
  (8 ∣ (k0_mult14 v531).toNat)
theorem k0_mult14_dvd : ∀ (v531 : BitVec 32) (k0_hw14 : k0_chk14 v531), 8 ∣ (k0_mult14 v531).toNat := fun v531 k0_hw14 => k0_hw14

def k0_off14 (v531 : BitVec 32) (v533 : BitVec 32) : Fin 3 → Nat :=
  let c0_233 : Index := 0#32
  let c0_i32_226 : BitVec 32 := 0#32
  let v556 : BitVec 1 := Scalar.cmpi .sgt v531 c0_i32_226
  let v557 : BitVec 32 := Scalar.extui v556
  let c0_i32_227 : BitVec 32 := 0#32
  let v558 : BitVec 1 := Scalar.cmpi .slt v531 c0_i32_227
  let v559 : BitVec 32 := Scalar.extui v558
  let v560 : BitVec 32 := Scalar.subi v557 v559
  let c8_i32_225 : BitVec 32 := 8#32
  let c0_i32_228 : BitVec 32 := 0#32
  let v561 : BitVec 1 := Scalar.cmpi .sgt c8_i32_225 c0_i32_228
  let v562 : BitVec 32 := Scalar.extui v561
  let c0_i32_229 : BitVec 32 := 0#32
  let v563 : BitVec 1 := Scalar.cmpi .slt c8_i32_225 c0_i32_229
  let v564 : BitVec 32 := Scalar.extui v563
  let v565 : BitVec 32 := Scalar.subi v562 v564
  let v566 : BitVec 1 := Scalar.cmpi .ne v560 v565
  let v567 : BitVec 32 := Scalar.remsi v531 c8_i32_225
  let c0_i32_230 : BitVec 32 := 0#32
  let v568 : BitVec 1 := Scalar.cmpi .ne v567 c0_i32_230
  let v569 : BitVec 1 := Scalar.andi v566 v568
  let v555 : BitVec 32 := Scalar.divsi v531 c8_i32_225
  let c1_i32_231 : BitVec 32 := 1#32
  let v570 : BitVec 32 := Scalar.subi v555 c1_i32_231
  let v571 : BitVec 32 := Scalar.select v569 v570 v555
  let c8_i32_232 : BitVec 32 := 8#32
  let v572 : BitVec 32 := Scalar.muli v571 c8_i32_232
  let v573 : BitVec 32 := v572
  let v575 : Index := Scalar.indexCast v573
  let c0_i32_217 : BitVec 32 := 0#32
  let v535 : BitVec 1 := Scalar.cmpi .sgt v533 c0_i32_217
  let v536 : BitVec 32 := Scalar.extui v535
  let c0_i32_218 : BitVec 32 := 0#32
  let v537 : BitVec 1 := Scalar.cmpi .slt v533 c0_i32_218
  let v538 : BitVec 32 := Scalar.extui v537
  let v539 : BitVec 32 := Scalar.subi v536 v538
  let c128_i32_216 : BitVec 32 := 128#32
  let c0_i32_219 : BitVec 32 := 0#32
  let v540 : BitVec 1 := Scalar.cmpi .sgt c128_i32_216 c0_i32_219
  let v541 : BitVec 32 := Scalar.extui v540
  let c0_i32_220 : BitVec 32 := 0#32
  let v542 : BitVec 1 := Scalar.cmpi .slt c128_i32_216 c0_i32_220
  let v543 : BitVec 32 := Scalar.extui v542
  let v544 : BitVec 32 := Scalar.subi v541 v543
  let v545 : BitVec 1 := Scalar.cmpi .ne v539 v544
  let v546 : BitVec 32 := Scalar.remsi v533 c128_i32_216
  let c0_i32_221 : BitVec 32 := 0#32
  let v547 : BitVec 1 := Scalar.cmpi .ne v546 c0_i32_221
  let v548 : BitVec 1 := Scalar.andi v545 v547
  let v534 : BitVec 32 := Scalar.divsi v533 c128_i32_216
  let c1_i32_222 : BitVec 32 := 1#32
  let v549 : BitVec 32 := Scalar.subi v534 c1_i32_222
  let v550 : BitVec 32 := Scalar.select v548 v549 v534
  let c128_i32_223 : BitVec 32 := 128#32
  let v551 : BitVec 32 := Scalar.muli v550 c128_i32_223
  let c1792_i32_224 : BitVec 32 := 1792#32
  let v552 : BitVec 32 := Scalar.minsi v551 c1792_i32_224
  let v553 : BitVec 32 := v552
  let v576 : Index := Scalar.indexCast v553
  ![0, v575.toNat, v576.toNat]

def k0_chk13 (v531 : BitVec 32) (v533 : BitVec 32) : Prop :=
  (128 ∣ (k0_mult13 v533).toNat) ∧
  (∀ a, (k0_off14 v531 v533) a + S1x24x256.size a ≤ S1x2048x2048.size a)
theorem k0_mult13_dvd : ∀ (v531 : BitVec 32) (v533 : BitVec 32) (k0_hw13 : k0_chk13 v531 v533), 128 ∣ (k0_mult13 v533).toNat := fun v531 v533 k0_hw13 => k0_hw13.1
theorem k0_off14_inb : ∀ (v531 : BitVec 32) (v533 : BitVec 32) (k0_hw13 : k0_chk13 v531 v533), ∀ a, (k0_off14 v531 v533) a + S1x24x256.size a ≤ S1x2048x2048.size a := fun v531 v533 k0_hw13 => k0_hw13.2

def k0_off15 (k0_t1 : Fin k0_t1_loop.trips) : Fin 1 → Nat :=
  let c0_i32 : BitVec 32 := 0#32
  let c1_i32 : BitVec 32 := 1#32
  let arg5 : BitVec 32 := Scf.iv c0_i32 c1_i32 k0_t1
  let c8_i32_249 : BitVec 32 := 8#32
  let v611 : BitVec 32 := Scalar.muli arg5 c8_i32_249
  let c7_i32 : BitVec 32 := 7#32
  let v612 : BitVec 32 := Scalar.addi v611 c7_i32
  let v613 : Index := Scalar.indexCast v612
  ![v613.toNat]
def k0_mult15 (v616 : BitVec 32) : BitVec 32 :=
  let c0_i32_251 : BitVec 32 := 0#32
  let v618 : BitVec 1 := Scalar.cmpi .sgt v616 c0_i32_251
  let v619 : BitVec 32 := Scalar.extui v618
  let c0_i32_252 : BitVec 32 := 0#32
  let v620 : BitVec 1 := Scalar.cmpi .slt v616 c0_i32_252
  let v621 : BitVec 32 := Scalar.extui v620
  let v622 : BitVec 32 := Scalar.subi v619 v621
  let c128_i32_250 : BitVec 32 := 128#32
  let c0_i32_253 : BitVec 32 := 0#32
  let v623 : BitVec 1 := Scalar.cmpi .sgt c128_i32_250 c0_i32_253
  let v624 : BitVec 32 := Scalar.extui v623
  let c0_i32_254 : BitVec 32 := 0#32
  let v625 : BitVec 1 := Scalar.cmpi .slt c128_i32_250 c0_i32_254
  let v626 : BitVec 32 := Scalar.extui v625
  let v627 : BitVec 32 := Scalar.subi v624 v626
  let v628 : BitVec 1 := Scalar.cmpi .ne v622 v627
  let v629 : BitVec 32 := Scalar.remsi v616 c128_i32_250
  let c0_i32_255 : BitVec 32 := 0#32
  let v630 : BitVec 1 := Scalar.cmpi .ne v629 c0_i32_255
  let v631 : BitVec 1 := Scalar.andi v628 v630
  let v617 : BitVec 32 := Scalar.divsi v616 c128_i32_250
  let c1_i32_256 : BitVec 32 := 1#32
  let v632 : BitVec 32 := Scalar.subi v617 c1_i32_256
  let v633 : BitVec 32 := Scalar.select v631 v632 v617
  let c128_i32_257 : BitVec 32 := 128#32
  let v634 : BitVec 32 := Scalar.muli v633 c128_i32_257
  let c1792_i32_258 : BitVec 32 := 1792#32
  let v635 : BitVec 32 := Scalar.minsi v634 c1792_i32_258
  v635

def k0_mult16 (v614 : BitVec 32) : BitVec 32 :=
  let c0_i32_260 : BitVec 32 := 0#32
  let v639 : BitVec 1 := Scalar.cmpi .sgt v614 c0_i32_260
  let v640 : BitVec 32 := Scalar.extui v639
  let c0_i32_261 : BitVec 32 := 0#32
  let v641 : BitVec 1 := Scalar.cmpi .slt v614 c0_i32_261
  let v642 : BitVec 32 := Scalar.extui v641
  let v643 : BitVec 32 := Scalar.subi v640 v642
  let c8_i32_259 : BitVec 32 := 8#32
  let c0_i32_262 : BitVec 32 := 0#32
  let v644 : BitVec 1 := Scalar.cmpi .sgt c8_i32_259 c0_i32_262
  let v645 : BitVec 32 := Scalar.extui v644
  let c0_i32_263 : BitVec 32 := 0#32
  let v646 : BitVec 1 := Scalar.cmpi .slt c8_i32_259 c0_i32_263
  let v647 : BitVec 32 := Scalar.extui v646
  let v648 : BitVec 32 := Scalar.subi v645 v647
  let v649 : BitVec 1 := Scalar.cmpi .ne v643 v648
  let v650 : BitVec 32 := Scalar.remsi v614 c8_i32_259
  let c0_i32_264 : BitVec 32 := 0#32
  let v651 : BitVec 1 := Scalar.cmpi .ne v650 c0_i32_264
  let v652 : BitVec 1 := Scalar.andi v649 v651
  let v638 : BitVec 32 := Scalar.divsi v614 c8_i32_259
  let c1_i32_265 : BitVec 32 := 1#32
  let v653 : BitVec 32 := Scalar.subi v638 c1_i32_265
  let v654 : BitVec 32 := Scalar.select v652 v653 v638
  let c8_i32_266 : BitVec 32 := 8#32
  let v655 : BitVec 32 := Scalar.muli v654 c8_i32_266
  v655

def k0_chk16 (v614 : BitVec 32) : Prop :=
  (8 ∣ (k0_mult16 v614).toNat)
theorem k0_mult16_dvd : ∀ (v614 : BitVec 32) (k0_hw16 : k0_chk16 v614), 8 ∣ (k0_mult16 v614).toNat := fun v614 k0_hw16 => k0_hw16

def k0_off16 (v614 : BitVec 32) (v616 : BitVec 32) : Fin 3 → Nat :=
  let c0_267 : Index := 0#32
  let c0_i32_260 : BitVec 32 := 0#32
  let v639 : BitVec 1 := Scalar.cmpi .sgt v614 c0_i32_260
  let v640 : BitVec 32 := Scalar.extui v639
  let c0_i32_261 : BitVec 32 := 0#32
  let v641 : BitVec 1 := Scalar.cmpi .slt v614 c0_i32_261
  let v642 : BitVec 32 := Scalar.extui v641
  let v643 : BitVec 32 := Scalar.subi v640 v642
  let c8_i32_259 : BitVec 32 := 8#32
  let c0_i32_262 : BitVec 32 := 0#32
  let v644 : BitVec 1 := Scalar.cmpi .sgt c8_i32_259 c0_i32_262
  let v645 : BitVec 32 := Scalar.extui v644
  let c0_i32_263 : BitVec 32 := 0#32
  let v646 : BitVec 1 := Scalar.cmpi .slt c8_i32_259 c0_i32_263
  let v647 : BitVec 32 := Scalar.extui v646
  let v648 : BitVec 32 := Scalar.subi v645 v647
  let v649 : BitVec 1 := Scalar.cmpi .ne v643 v648
  let v650 : BitVec 32 := Scalar.remsi v614 c8_i32_259
  let c0_i32_264 : BitVec 32 := 0#32
  let v651 : BitVec 1 := Scalar.cmpi .ne v650 c0_i32_264
  let v652 : BitVec 1 := Scalar.andi v649 v651
  let v638 : BitVec 32 := Scalar.divsi v614 c8_i32_259
  let c1_i32_265 : BitVec 32 := 1#32
  let v653 : BitVec 32 := Scalar.subi v638 c1_i32_265
  let v654 : BitVec 32 := Scalar.select v652 v653 v638
  let c8_i32_266 : BitVec 32 := 8#32
  let v655 : BitVec 32 := Scalar.muli v654 c8_i32_266
  let v656 : BitVec 32 := v655
  let v658 : Index := Scalar.indexCast v656
  let c0_i32_251 : BitVec 32 := 0#32
  let v618 : BitVec 1 := Scalar.cmpi .sgt v616 c0_i32_251
  let v619 : BitVec 32 := Scalar.extui v618
  let c0_i32_252 : BitVec 32 := 0#32
  let v620 : BitVec 1 := Scalar.cmpi .slt v616 c0_i32_252
  let v621 : BitVec 32 := Scalar.extui v620
  let v622 : BitVec 32 := Scalar.subi v619 v621
  let c128_i32_250 : BitVec 32 := 128#32
  let c0_i32_253 : BitVec 32 := 0#32
  let v623 : BitVec 1 := Scalar.cmpi .sgt c128_i32_250 c0_i32_253
  let v624 : BitVec 32 := Scalar.extui v623
  let c0_i32_254 : BitVec 32 := 0#32
  let v625 : BitVec 1 := Scalar.cmpi .slt c128_i32_250 c0_i32_254
  let v626 : BitVec 32 := Scalar.extui v625
  let v627 : BitVec 32 := Scalar.subi v624 v626
  let v628 : BitVec 1 := Scalar.cmpi .ne v622 v627
  let v629 : BitVec 32 := Scalar.remsi v616 c128_i32_250
  let c0_i32_255 : BitVec 32 := 0#32
  let v630 : BitVec 1 := Scalar.cmpi .ne v629 c0_i32_255
  let v631 : BitVec 1 := Scalar.andi v628 v630
  let v617 : BitVec 32 := Scalar.divsi v616 c128_i32_250
  let c1_i32_256 : BitVec 32 := 1#32
  let v632 : BitVec 32 := Scalar.subi v617 c1_i32_256
  let v633 : BitVec 32 := Scalar.select v631 v632 v617
  let c128_i32_257 : BitVec 32 := 128#32
  let v634 : BitVec 32 := Scalar.muli v633 c128_i32_257
  let c1792_i32_258 : BitVec 32 := 1792#32
  let v635 : BitVec 32 := Scalar.minsi v634 c1792_i32_258
  let v636 : BitVec 32 := v635
  let v659 : Index := Scalar.indexCast v636
  ![0, v658.toNat, v659.toNat]

def k0_chk15 (v614 : BitVec 32) (v616 : BitVec 32) : Prop :=
  (128 ∣ (k0_mult15 v616).toNat) ∧
  (∀ a, (k0_off16 v614 v616) a + S1x24x256.size a ≤ S1x2048x2048.size a)
theorem k0_mult15_dvd : ∀ (v614 : BitVec 32) (v616 : BitVec 32) (k0_hw15 : k0_chk15 v614 v616), 128 ∣ (k0_mult15 v616).toNat := fun v614 v616 k0_hw15 => k0_hw15.1
theorem k0_off16_inb : ∀ (v614 : BitVec 32) (v616 : BitVec 32) (k0_hw15 : k0_chk15 v614 v616), ∀ a, (k0_off16 v614 v616) a + S1x24x256.size a ≤ S1x2048x2048.size a := fun v614 v616 k0_hw15 => k0_hw15.2

def k0_mult17 (k0_t1 : Fin k0_t1_loop.trips) : BitVec 32 :=
  let c0_i32 : BitVec 32 := 0#32
  let c1_i32 : BitVec 32 := 1#32
  let arg5 : BitVec 32 := Scf.iv c0_i32 c1_i32 k0_t1
  let c4_i32_7 : BitVec 32 := 4#32
  let c0_i32_8 : BitVec 32 := 0#32
  let v19 : BitVec 1 := Scalar.cmpi .eq c4_i32_7 c0_i32_8
  let c1_i32_9 : BitVec 32 := 1#32
  let v20 : BitVec 32 := Scalar.select v19 c1_i32_9 c4_i32_7
  let v21 : BitVec 32 := Scalar.remsi arg5 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let c128_i32_285 : BitVec 32 := 128#32
  let v695 : BitVec 32 := Scalar.muli v28 c128_i32_285
  v695
def k0_off17 (k0_t1 : Fin k0_t1_loop.trips) : Fin 3 → Nat :=
  let c0_286 : Index := 0#32
  let c0_i32 : BitVec 32 := 0#32
  let c1_i32 : BitVec 32 := 1#32
  let arg5 : BitVec 32 := Scf.iv c0_i32 c1_i32 k0_t1
  let c0_i32_1 : BitVec 32 := 0#32
  let v3 : BitVec 1 := Scalar.cmpi .sgt arg5 c0_i32_1
  let v4 : BitVec 32 := Scalar.extui v3
  let c0_i32_2 : BitVec 32 := 0#32
  let v5 : BitVec 1 := Scalar.cmpi .slt arg5 c0_i32_2
  let v6 : BitVec 32 := Scalar.extui v5
  let v7 : BitVec 32 := Scalar.subi v4 v6
  let c4_i32 : BitVec 32 := 4#32
  let c0_i32_3 : BitVec 32 := 0#32
  let v8 : BitVec 1 := Scalar.cmpi .sgt c4_i32 c0_i32_3
  let v9 : BitVec 32 := Scalar.extui v8
  let c0_i32_4 : BitVec 32 := 0#32
  let v10 : BitVec 1 := Scalar.cmpi .slt c4_i32 c0_i32_4
  let v11 : BitVec 32 := Scalar.extui v10
  let v12 : BitVec 32 := Scalar.subi v9 v11
  let v13 : BitVec 1 := Scalar.cmpi .ne v7 v12
  let v14 : BitVec 32 := Scalar.remsi arg5 c4_i32
  let c0_i32_5 : BitVec 32 := 0#32
  let v15 : BitVec 1 := Scalar.cmpi .ne v14 c0_i32_5
  let v16 : BitVec 1 := Scalar.andi v13 v15
  let v2 : BitVec 32 := Scalar.divsi arg5 c4_i32
  let c1_i32_6 : BitVec 32 := 1#32
  let v17 : BitVec 32 := Scalar.subi v2 c1_i32_6
  let v18 : BitVec 32 := Scalar.select v16 v17 v2
  let c16_i32_284 : BitVec 32 := 16#32
  let v694 : BitVec 32 := Scalar.muli v18 c16_i32_284
  let v697 : Index := Scalar.indexCast v694
  let c4_i32_7 : BitVec 32 := 4#32
  let c0_i32_8 : BitVec 32 := 0#32
  let v19 : BitVec 1 := Scalar.cmpi .eq c4_i32_7 c0_i32_8
  let c1_i32_9 : BitVec 32 := 1#32
  let v20 : BitVec 32 := Scalar.select v19 c1_i32_9 c4_i32_7
  let v21 : BitVec 32 := Scalar.remsi arg5 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let c128_i32_285 : BitVec 32 := 128#32
  let v695 : BitVec 32 := Scalar.muli v28 c128_i32_285
  let v696 : BitVec 32 := v695
  let v698 : Index := Scalar.indexCast v696
  ![0, v697.toNat, v698.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S3x2048x2048 : Shape := ⟨3, ![3, 2048, 2048]⟩
abbrev S3 : Shape := ⟨1, ![3]⟩
abbrev S3x1x1 : Shape := ⟨3, ![3, 1, 1]⟩
abbrev S_ : Shape := ⟨0, ![]⟩
abbrev S2048x2048 : Shape := ⟨2, ![2048, 2048]⟩
abbrev S2048x2050 : Shape := ⟨2, ![2048, 2050]⟩
abbrev S226 : Shape := ⟨1, ![226]⟩
abbrev S226x226 : Shape := ⟨2, ![226, 226]⟩
abbrev S51076 : Shape := ⟨1, ![51076]⟩
abbrev S1x226 : Shape := ⟨2, ![1, 226]⟩
abbrev S51076x1 : Shape := ⟨2, ![51076, 1]⟩
abbrev S51076x2 : Shape := ⟨2, ![51076, 2]⟩
abbrev S1024 : Shape := ⟨1, ![1024]⟩
abbrev S1024x1 : Shape := ⟨2, ![1024, 1]⟩
abbrev S1024x3 : Shape := ⟨2, ![1024, 3]⟩
abbrev S1024x3x16x16 : Shape := ⟨4, ![1024, 3, 16, 16]⟩
abbrev S1024x768 : Shape := ⟨2, ![1024, 768]⟩
abbrev S32x32x3x16x16 : Shape := ⟨5, ![32, 32, 3, 16, 16]⟩
abbrev S3x32x16x32x16 : Shape := ⟨5, ![3, 32, 16, 32, 16]⟩
abbrev S3x512x512 : Shape := ⟨3, ![3, 512, 512]⟩

abbrev nBuf : Space → Nat
  | .hbm => 253
  | .vmem => 0
  | .smem => 0
  | _ => 0

abbrev hbmTy0_0 (i : Nat) : BufTy := match i % 128 with
  | 0 => ⟨S3x2048x2048, .f32⟩
  | 1 => ⟨S3, .f32⟩
  | 2 => ⟨S3x1x1, .f32⟩
  | 3 => ⟨S3x2048x2048, .f32⟩
  | 4 => ⟨S3x2048x2048, .f32⟩
  | 5 => ⟨S_, .f32⟩
  | 6 => ⟨S2048x2048, .f32⟩
  | 7 => ⟨S_, .i32⟩
  | 8 => ⟨S_, .f32⟩
  | 9 => ⟨S2048x2050, .f32⟩
  | 10 => ⟨S_, .f32⟩
  | 11 => ⟨S_, .f32⟩
  | 12 => ⟨S2048x2050, .f32⟩
  | 13 => ⟨S_, .f32⟩
  | 14 => ⟨S_, .f32⟩
  | 15 => ⟨S2048x2050, .f32⟩
  | 16 => ⟨S2048x2050, .f32⟩
  | 17 => ⟨S_, .f32⟩
  | 18 => ⟨S_, .f32⟩
  | 19 => ⟨S2048x2050, .f32⟩
  | 20 => ⟨S_, .f32⟩
  | 21 => ⟨S_, .f32⟩
  | 22 => ⟨S2048x2050, .f32⟩
  | 23 => ⟨S226, .i32⟩
  | 24 => ⟨S_, .i32⟩
  | 25 => ⟨S226, .i32⟩
  | 26 => ⟨S226, .i32⟩
  | 27 => ⟨S_, .i32⟩
  | 28 => ⟨S226, .i32⟩
  | 29 => ⟨S226, .i32⟩
  | 30 => ⟨S226, .i32⟩
  | 31 => ⟨S_, .i32⟩
  | 32 => ⟨S226, .i32⟩
  | 33 => ⟨S226, .i32⟩
  | 34 => ⟨S_, .i32⟩
  | 35 => ⟨S226, .i32⟩
  | 36 => ⟨S226, .i32⟩
  | 37 => ⟨S226x226, .i32⟩
  | 38 => ⟨S51076, .i32⟩
  | 39 => ⟨S1x226, .i32⟩
  | 40 => ⟨S226x226, .i32⟩
  | 41 => ⟨S51076, .i32⟩
  | 42 => ⟨S_, .i32⟩
  | 43 => ⟨S51076, .i32⟩
  | 44 => ⟨S51076, .i32⟩
  | 45 => ⟨S_, .i32⟩
  | 46 => ⟨S51076, .i32⟩
  | 47 => ⟨S51076, .i32⟩
  | 48 => ⟨S_, .i32⟩
  | 49 => ⟨S51076, .i32⟩
  | 50 => ⟨S51076, .i1⟩
  | 51 => ⟨S_, .i32⟩
  | 52 => ⟨S51076, .i32⟩
  | 53 => ⟨S51076, .i32⟩
  | 54 => ⟨S51076, .i32⟩
  | 55 => ⟨S_, .i32⟩
  | 56 => ⟨S51076, .i32⟩
  | 57 => ⟨S51076, .i1⟩
  | 58 => ⟨S_, .i32⟩
  | 59 => ⟨S51076, .i32⟩
  | 60 => ⟨S51076, .i32⟩
  | 61 => ⟨S51076, .i32⟩
  | 62 => ⟨S51076x1, .i32⟩
  | 63 => ⟨S51076x1, .i32⟩
  | 64 => ⟨S51076x2, .i32⟩
  | 65 => ⟨S51076, .f32⟩
  | 66 => ⟨S_, .i32⟩
  | 67 => ⟨S51076, .i32⟩
  | 68 => ⟨S51076, .i1⟩
  | 69 => ⟨S_, .i32⟩
  | 70 => ⟨S51076, .i32⟩
  | 71 => ⟨S51076, .i32⟩
  | 72 => ⟨S51076, .i32⟩
  | 73 => ⟨S_, .i32⟩
  | 74 => ⟨S51076, .i32⟩
  | 75 => ⟨S51076, .i1⟩
  | 76 => ⟨S_, .i32⟩
  | 77 => ⟨S51076, .i32⟩
  | 78 => ⟨S51076, .i32⟩
  | 79 => ⟨S51076, .i32⟩
  | 80 => ⟨S51076x1, .i32⟩
  | 81 => ⟨S51076x1, .i32⟩
  | 82 => ⟨S51076x2, .i32⟩
  | 83 => ⟨S51076, .f32⟩
  | 84 => ⟨S51076, .f32⟩
  | 85 => ⟨S_, .i32⟩
  | 86 => ⟨S51076, .i32⟩
  | 87 => ⟨S51076, .i1⟩
  | 88 => ⟨S_, .i32⟩
  | 89 => ⟨S51076, .i32⟩
  | 90 => ⟨S51076, .i32⟩
  | 91 => ⟨S51076, .i32⟩
  | 92 => ⟨S_, .i32⟩
  | 93 => ⟨S51076, .i32⟩
  | 94 => ⟨S51076, .i1⟩
  | 95 => ⟨S_, .i32⟩
  | 96 => ⟨S51076, .i32⟩
  | 97 => ⟨S51076, .i32⟩
  | 98 => ⟨S51076, .i32⟩
  | 99 => ⟨S51076x1, .i32⟩
  | 100 => ⟨S51076x1, .i32⟩
  | 101 => ⟨S51076x2, .i32⟩
  | 102 => ⟨S51076, .f32⟩
  | 103 => ⟨S51076, .f32⟩
  | 104 => ⟨S_, .i32⟩
  | 105 => ⟨S51076, .i32⟩
  | 106 => ⟨S51076, .i1⟩
  | 107 => ⟨S_, .i32⟩
  | 108 => ⟨S51076, .i32⟩
  | 109 => ⟨S51076, .i32⟩
  | 110 => ⟨S51076, .i32⟩
  | 111 => ⟨S_, .i32⟩
  | 112 => ⟨S51076, .i32⟩
  | 113 => ⟨S51076, .i1⟩
  | 114 => ⟨S_, .i32⟩
  | 115 => ⟨S51076, .i32⟩
  | 116 => ⟨S51076, .i32⟩
  | 117 => ⟨S51076, .i32⟩
  | 118 => ⟨S51076x1, .i32⟩
  | 119 => ⟨S51076x1, .i32⟩
  | 120 => ⟨S51076x2, .i32⟩
  | 121 => ⟨S51076, .f32⟩
  | 122 => ⟨S51076, .f32⟩
  | 123 => ⟨S_, .i32⟩
  | 124 => ⟨S51076, .i32⟩
  | 125 => ⟨S51076, .i1⟩
  | 126 => ⟨S_, .i32⟩
  | 127 => ⟨S51076, .i32⟩
  | _ => ⟨S3x2048x2048, .f32⟩

abbrev hbmTy0_1 (i : Nat) : BufTy := match i % 128 with
  | 0 => ⟨S51076, .i32⟩
  | 1 => ⟨S51076, .i32⟩
  | 2 => ⟨S_, .i32⟩
  | 3 => ⟨S51076, .i32⟩
  | 4 => ⟨S51076, .i1⟩
  | 5 => ⟨S_, .i32⟩
  | 6 => ⟨S51076, .i32⟩
  | 7 => ⟨S51076, .i32⟩
  | 8 => ⟨S51076, .i32⟩
  | 9 => ⟨S51076x1, .i32⟩
  | 10 => ⟨S51076x1, .i32⟩
  | 11 => ⟨S51076x2, .i32⟩
  | 12 => ⟨S51076, .f32⟩
  | 13 => ⟨S_, .i32⟩
  | 14 => ⟨S51076, .i32⟩
  | 15 => ⟨S51076, .i1⟩
  | 16 => ⟨S_, .i32⟩
  | 17 => ⟨S51076, .i32⟩
  | 18 => ⟨S51076, .i32⟩
  | 19 => ⟨S51076, .i32⟩
  | 20 => ⟨S_, .i32⟩
  | 21 => ⟨S51076, .i32⟩
  | 22 => ⟨S51076, .i1⟩
  | 23 => ⟨S_, .i32⟩
  | 24 => ⟨S51076, .i32⟩
  | 25 => ⟨S51076, .i32⟩
  | 26 => ⟨S51076, .i32⟩
  | 27 => ⟨S51076x1, .i32⟩
  | 28 => ⟨S51076x1, .i32⟩
  | 29 => ⟨S51076x2, .i32⟩
  | 30 => ⟨S51076, .f32⟩
  | 31 => ⟨S51076, .f32⟩
  | 32 => ⟨S_, .i32⟩
  | 33 => ⟨S51076, .i32⟩
  | 34 => ⟨S51076, .i1⟩
  | 35 => ⟨S_, .i32⟩
  | 36 => ⟨S51076, .i32⟩
  | 37 => ⟨S51076, .i32⟩
  | 38 => ⟨S51076, .i32⟩
  | 39 => ⟨S_, .i32⟩
  | 40 => ⟨S51076, .i32⟩
  | 41 => ⟨S51076, .i1⟩
  | 42 => ⟨S_, .i32⟩
  | 43 => ⟨S51076, .i32⟩
  | 44 => ⟨S51076, .i32⟩
  | 45 => ⟨S51076, .i32⟩
  | 46 => ⟨S51076x1, .i32⟩
  | 47 => ⟨S51076x1, .i32⟩
  | 48 => ⟨S51076x2, .i32⟩
  | 49 => ⟨S51076, .f32⟩
  | 50 => ⟨S51076, .f32⟩
  | 51 => ⟨S_, .i32⟩
  | 52 => ⟨S51076, .i32⟩
  | 53 => ⟨S51076, .i1⟩
  | 54 => ⟨S_, .i32⟩
  | 55 => ⟨S51076, .i32⟩
  | 56 => ⟨S51076, .i32⟩
  | 57 => ⟨S51076, .i32⟩
  | 58 => ⟨S_, .i32⟩
  | 59 => ⟨S51076, .i32⟩
  | 60 => ⟨S51076, .i1⟩
  | 61 => ⟨S_, .i32⟩
  | 62 => ⟨S51076, .i32⟩
  | 63 => ⟨S51076, .i32⟩
  | 64 => ⟨S51076, .i32⟩
  | 65 => ⟨S51076x1, .i32⟩
  | 66 => ⟨S51076x1, .i32⟩
  | 67 => ⟨S51076x2, .i32⟩
  | 68 => ⟨S51076, .f32⟩
  | 69 => ⟨S51076, .f32⟩
  | 70 => ⟨S51076, .f32⟩
  | 71 => ⟨S_, .f32⟩
  | 72 => ⟨S51076, .f32⟩
  | 73 => ⟨S51076, .f32⟩
  | 74 => ⟨S51076, .f32⟩
  | 75 => ⟨S_, .f32⟩
  | 76 => ⟨S51076, .f32⟩
  | 77 => ⟨S51076, .f32⟩
  | 78 => ⟨S51076, .f32⟩
  | 79 => ⟨S51076, .i32⟩
  | 80 => ⟨S51076, .f32⟩
  | 81 => ⟨S51076, .i32⟩
  | 82 => ⟨S1024, .i32⟩
  | 83 => ⟨S_, .i32⟩
  | 84 => ⟨S1024, .i32⟩
  | 85 => ⟨S1024, .i1⟩
  | 86 => ⟨S_, .i32⟩
  | 87 => ⟨S1024, .i32⟩
  | 88 => ⟨S1024, .i32⟩
  | 89 => ⟨S1024, .i32⟩
  | 90 => ⟨S1024x1, .i32⟩
  | 91 => ⟨S1024, .i32⟩
  | 92 => ⟨S_, .i32⟩
  | 93 => ⟨S1024, .i32⟩
  | 94 => ⟨S1024, .i1⟩
  | 95 => ⟨S_, .i32⟩
  | 96 => ⟨S1024, .i32⟩
  | 97 => ⟨S1024, .i32⟩
  | 98 => ⟨S1024, .i32⟩
  | 99 => ⟨S1024x1, .i32⟩
  | 100 => ⟨S1024, .i32⟩
  | 101 => ⟨S_, .i32⟩
  | 102 => ⟨S1024, .i32⟩
  | 103 => ⟨S1024, .i1⟩
  | 104 => ⟨S_, .i32⟩
  | 105 => ⟨S1024, .i32⟩
  | 106 => ⟨S1024, .i32⟩
  | 107 => ⟨S1024, .i32⟩
  | 108 => ⟨S_, .i32⟩
  | 109 => ⟨S1024, .i32⟩
  | 110 => ⟨S1024, .i1⟩
  | 111 => ⟨S_, .i32⟩
  | 112 => ⟨S1024, .i32⟩
  | 113 => ⟨S1024, .i32⟩
  | 114 => ⟨S1024, .i32⟩
  | 115 => ⟨S_, .i32⟩
  | 116 => ⟨S1024x1, .i32⟩
  | 117 => ⟨S1024x1, .i32⟩
  | 118 => ⟨S1024x1, .i32⟩
  | 119 => ⟨S1024x3, .i32⟩
  | 120 => ⟨S1024x3x16x16, .f32⟩
  | 121 => ⟨S1024x768, .f32⟩
  | 122 => ⟨S32x32x3x16x16, .f32⟩
  | 123 => ⟨S3x32x16x32x16, .f32⟩
  | 124 => ⟨S3x512x512, .f32⟩
  | _ => ⟨S3x2048x2048, .f32⟩

abbrev hbmTy (i : Nat) : BufTy := match i / 128 with
  | 0 => hbmTy0_0 i
  | 1 => hbmTy0_1 i
  | _ => ⟨S3x2048x2048, .f32⟩

abbrev bufTy : (tb : Table) → Fin (tcTables nBuf tb) → BufTy
  | .hbm, ⟨i, _⟩ => hbmTy i
  | _, _ => ⟨S3x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_call1_call0_cst : Ref sig .tc := ⟨.hbm, 10, rfl⟩
abbrev main_call1_call0_v0 : Ref sig .tc := ⟨.hbm, 11, rfl⟩
abbrev main_v5 : Ref sig .tc := ⟨.hbm, 12, rfl⟩
abbrev main_call2_call0_cst : Ref sig .tc := ⟨.hbm, 13, rfl⟩
abbrev main_call2_call0_v0 : Ref sig .tc := ⟨.hbm, 14, rfl⟩
abbrev main_v6 : Ref sig .tc := ⟨.hbm, 15, rfl⟩
abbrev main_v7 : Ref sig .tc := ⟨.hbm, 16, rfl⟩
abbrev main_call3_call0_cst : Ref sig .tc := ⟨.hbm, 17, rfl⟩
abbrev main_call3_call0_v0 : Ref sig .tc := ⟨.hbm, 18, rfl⟩
abbrev main_v8 : Ref sig .tc := ⟨.hbm, 19, rfl⟩
abbrev main_call4_call0_cst : Ref sig .tc := ⟨.hbm, 20, rfl⟩
abbrev main_call4_call0_v0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_c_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_11 : Ref sig .tc := ⟨.hbm, 66, rfl⟩
abbrev main_v43 : Ref sig .tc := ⟨.hbm, 67, rfl⟩
abbrev main_v44 : Ref sig .tc := ⟨.hbm, 68, rfl⟩
abbrev main_c_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_13 : Ref sig .tc := ⟨.hbm, 73, rfl⟩
abbrev main_v48 : Ref sig .tc := ⟨.hbm, 74, rfl⟩
abbrev main_v49 : Ref sig .tc := ⟨.hbm, 75, rfl⟩
abbrev main_c_14 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_15 : Ref sig .tc := ⟨.hbm, 85, rfl⟩
abbrev main_v58 : Ref sig .tc := ⟨.hbm, 86, rfl⟩
abbrev main_v59 : Ref sig .tc := ⟨.hbm, 87, rfl⟩
abbrev main_c_16 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_17 : Ref sig .tc := ⟨.hbm, 92, rfl⟩
abbrev main_v63 : Ref sig .tc := ⟨.hbm, 93, rfl⟩
abbrev main_v64 : Ref sig .tc := ⟨.hbm, 94, rfl⟩
abbrev main_c_18 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_19 : Ref sig .tc := ⟨.hbm, 104, rfl⟩
abbrev main_v73 : Ref sig .tc := ⟨.hbm, 105, rfl⟩
abbrev main_v74 : Ref sig .tc := ⟨.hbm, 106, rfl⟩
abbrev main_c_20 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_21 : Ref sig .tc := ⟨.hbm, 111, rfl⟩
abbrev main_v78 : Ref sig .tc := ⟨.hbm, 112, rfl⟩
abbrev main_v79 : Ref sig .tc := ⟨.hbm, 113, rfl⟩
abbrev main_c_22 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_23 : Ref sig .tc := ⟨.hbm, 123, rfl⟩
abbrev main_v88 : Ref sig .tc := ⟨.hbm, 124, rfl⟩
abbrev main_v89 : Ref sig .tc := ⟨.hbm, 125, rfl⟩
abbrev main_c_24 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_25 : Ref sig .tc := ⟨.hbm, 130, rfl⟩
abbrev main_v93 : Ref sig .tc := ⟨.hbm, 131, rfl⟩
abbrev main_v94 : Ref sig .tc := ⟨.hbm, 132, rfl⟩
abbrev main_c_26 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_27 : Ref sig .tc := ⟨.hbm, 141, rfl⟩
abbrev main_v102 : Ref sig .tc := ⟨.hbm, 142, rfl⟩
abbrev main_v103 : Ref sig .tc := ⟨.hbm, 143, rfl⟩
abbrev main_c_28 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_c_29 : Ref sig .tc := ⟨.hbm, 148, rfl⟩
abbrev main_v107 : Ref sig .tc := ⟨.hbm, 149, rfl⟩
abbrev main_v108 : Ref sig .tc := ⟨.hbm, 150, rfl⟩
abbrev main_c_30 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_31 : Ref sig .tc := ⟨.hbm, 160, rfl⟩
abbrev main_v117 : Ref sig .tc := ⟨.hbm, 161, rfl⟩
abbrev main_v118 : Ref sig .tc := ⟨.hbm, 162, rfl⟩
abbrev main_c_32 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_33 : Ref sig .tc := ⟨.hbm, 167, rfl⟩
abbrev main_v122 : Ref sig .tc := ⟨.hbm, 168, rfl⟩
abbrev main_v123 : Ref sig .tc := ⟨.hbm, 169, rfl⟩
abbrev main_c_34 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_c_35 : Ref sig .tc := ⟨.hbm, 179, rfl⟩
abbrev main_v132 : Ref sig .tc := ⟨.hbm, 180, rfl⟩
abbrev main_v133 : Ref sig .tc := ⟨.hbm, 181, rfl⟩
abbrev main_c_36 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_c_37 : Ref sig .tc := ⟨.hbm, 186, rfl⟩
abbrev main_v137 : Ref sig .tc := ⟨.hbm, 187, rfl⟩
abbrev main_v138 : Ref sig .tc := ⟨.hbm, 188, rfl⟩
abbrev main_c_38 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_39 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_40 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_call5_v0 : Ref sig .tc := ⟨.hbm, 207, rfl⟩
abbrev main_call5_v1_0 : Ref sig .tc := ⟨.hbm, 208, rfl⟩
abbrev main_v154 : Ref sig .tc := ⟨.hbm, 209, rfl⟩
abbrev main_v155 : Ref sig .tc := ⟨.hbm, 210, rfl⟩
abbrev main_c_41 : Ref sig .tc := ⟨.hbm, 211, rfl⟩
abbrev main_v156 : Ref sig .tc := ⟨.hbm, 212, rfl⟩
abbrev main_v157 : Ref sig .tc := ⟨.hbm, 213, rfl⟩
abbrev main_c_42 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_c_43 : Ref sig .tc := ⟨.hbm, 220, rfl⟩
abbrev main_v163 : Ref sig .tc := ⟨.hbm, 221, rfl⟩
abbrev main_v164 : Ref sig .tc := ⟨.hbm, 222, rfl⟩
abbrev main_c_44 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_c_45 : Ref sig .tc := ⟨.hbm, 229, rfl⟩
abbrev main_v170 : Ref sig .tc := ⟨.hbm, 230, rfl⟩
abbrev main_v171 : Ref sig .tc := ⟨.hbm, 231, rfl⟩
abbrev main_c_46 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_c_47 : Ref sig .tc := ⟨.hbm, 236, rfl⟩
abbrev main_v175 : Ref sig .tc := ⟨.hbm, 237, rfl⟩
abbrev main_v176 : Ref sig .tc := ⟨.hbm, 238, rfl⟩
abbrev main_c_48 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_c_49 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩

abbrev nD : Nat := 1
abbrev τ : Topo := Topo.v7x

variable {F : FTy → Type} [FloatOps F]
-- ==== Proof.RefGather.lean ====
module

public import proofs.«01_k».proof.Proof.Gen.ReferenceIdeal.Run
public import Idealize.ShloMosaic.Lib.Routing.OpsSearch
public import Idealize.ShloMosaic.Lib.Routing.OpsPair
public import Idealize.ShloMosaic.Lib.Pipeline.Value

@[expose] public section

set_option maxRecDepth 16384
set_option maxHeartbeats 1000000

/-! # The reference's gathers, read at an element

The reference takes pixels by index words: a word that is not negative passes the wrap of an index unchanged, and one that lies in
the table passes the clamp of a gather unchanged, so each gather reads the place its words name. -/

noncomputable section

namespace Cert.ReferenceIdeal.Fold

open Idealize.ShloMosaic Idealize.ShloMosaic.TcCoe Idealize.ShloMosaic.ValueIdx
open Cert.ReferenceIdeal Cert.ReferenceIdeal.Gen

variable {α : Type}

/-- A vector of index words of the patches, those below zero raised by `n`. -/
def wrapAll (n : BitVec 32) (x : S51076.Idx → BitVec 32) : S51076.Idx → BitVec 32 :=
  select (cmpi .slt x (broadcastInDim S51076 ![] bcast_S_S51076 (constantI S_ 32 0#32)))
    (addi x (broadcastInDim S51076 ![] bcast_S_S51076 (constantI S_ 32 n))) x

/-- A vector of index words of the tiles, those below zero raised by `n`. -/
def wrapTop (n : BitVec 32) (x : S1024.Idx → BitVec 32) : S1024.Idx → BitVec 32 :=
  select (cmpi .slt x (broadcastInDim S1024 ![] bcast_S_S1024 (constantI S_ 32 0#32)))
    (addi x (broadcastInDim S1024 ![] bcast_S_S1024 (constantI S_ 32 n))) x

/-- A word that is not negative is left alone. -/
theorem wrapAll_apply (n : BitVec 32) (x : S51076.Idx → BitVec 32) (j : S51076.Idx) {k : ℕ} (h : x j = BitVec.ofNat 32 k) (hk : k < 2 ^ 31) :
    wrapAll n x j = BitVec.ofNat 32 k := by
  refine (Routing.wrap_of_lt (w := 32) (x j) _ ?_).trans h
  rw [h, BitVec.toNat_ofNat]; exact lt_of_le_of_lt (Nat.mod_le _ _) hk

/-- A word that is not negative is left alone. -/
theorem wrapTop_apply (n : BitVec 32) (x : S1024.Idx → BitVec 32) (j : S1024.Idx) {k : ℕ} (h : x j = BitVec.ofNat 32 k) (hk : k < 2 ^ 31) :
    wrapTop n x j = BitVec.ofNat 32 k := by
  refine (Routing.wrap_of_lt (w := 32) (x j) _ ?_).trans h
  rw [h, BitVec.toNat_ofNat]; exact lt_of_le_of_lt (Nat.mod_le _ _) hk

/-! ## One element of a table of two axes -/

/-- A row word and a column word for each patch, side by side. -/
def pairs (r c : S51076.Idx → BitVec 32) : S51076x2.Idx → BitVec 32 :=
  concatenate S51076x2 1 [⟨S51076x1, broadcastInDim S51076x1 ![0] bcast_S51076_S51076x1_0 (wrapAll 2048#32 r)⟩,
    ⟨S51076x1, broadcastInDim S51076x1 ![0] bcast_S51076_S51076x1_0 (wrapAll 2050#32 c)⟩] concatenates_S51076x1_S51076x1_S51076x2_d1

/-- A pair's row word. -/
theorem pairs_row (r c : S51076.Idx → BitVec 32) (j : Fin 51076) : pairs r c (ix2 j (0 : Fin 2)) = wrapAll 2048#32 r (ix1 j) := by
  refine (concatenate_pair_apply_left (t := S51076x2) (s₁ := S51076x1) (s₂ := S51076x1) 1 _ _ _ (ix2 j (0 : Fin 2)) rfl (ix2 j (0 : Fin 1))
    (fun b => by fin_cases b <;> rfl)).trans ?_
  exact broadcastInDim_apply _ _ _ _ (ix1 j) (fun b => by fin_cases b; rfl)

/-- A pair's column word. -/
theorem pairs_col (r c : S51076.Idx → BitVec 32) (j : Fin 51076) : pairs r c (ix2 j (1 : Fin 2)) = wrapAll 2050#32 c (ix1 j) := by
  refine (concatenate_pair_apply_right (t := S51076x2) (s₁ := S51076x1) (s₂ := S51076x1) 1 _ _ _ (ix2 j (1 : Fin 2)) rfl rfl (ix2 j (0 : Fin 1))
    (fun b hb => by fin_cases b; rfl; exact absurd rfl hb) rfl).trans ?_
  exact broadcastInDim_apply _ _ _ _ (ix1 j) (fun b => by fin_cases b; rfl)

/-- The gather reads the element its two words name. -/
theorem gatherPair_apply (x : S2048x2050.Idx → α) (r c : S51076.Idx → BitVec 32) (j : Fin 51076) {a b : ℕ} (ha : a < 2048) (hb : b < 2050)
    (hr : r (ix1 j) = BitVec.ofNat 32 a) (hc : c (ix1 j) = BitVec.ofNat 32 b) :
    Host.gather gather_S2048x2050_S51076x2_S51076_n_01_n_n_01_1_11 x (pairs r c) (ix1 j) = x (ix2 ⟨a, ha⟩ ⟨b, hb⟩) := by
  unfold Host.gather
  refine congrArg x (funext fun e => Fin.ext ?_)
  have hs0 : gather_S2048x2050_S51076x2_S51076_n_01_n_n_01_1_11.siIdx (ix1 j) ⟨0, by decide⟩ = ix2 j (0 : Fin 2) := by
    funext e; fin_cases e <;> rfl
  have hs1 : gather_S2048x2050_S51076x2_S51076_n_01_n_n_01_1_11.siIdx (ix1 j) ⟨1, by decide⟩ = ix2 j (1 : Fin 2) := by
    funext e; fin_cases e <;> rfl
  have h0 := (pairs_row r c j).trans (wrapAll_apply _ r (ix1 j) hr (by omega))
  have h1 := (pairs_col r c j).trans (wrapAll_apply _ c (ix1 j) hc (by omega))
  fin_cases e
  · show min (pairs r c (gather_S2048x2050_S51076x2_S51076_n_01_n_n_01_1_11.siIdx (ix1 j) ⟨0, by decide⟩)).toInt.toNat (2048 - 1) + 0 + 0 = a
    rw [hs0, h0, StableHlo.Predicate.toInt_ofNat_small _ (by omega)]
    omega
  · show min (pairs r c (gather_S2048x2050_S51076x2_S51076_n_01_n_n_01_1_11.siIdx (ix1 j) ⟨1, by decide⟩)).toInt.toNat (2050 - 1) + 0 + 0 = b
    rw [hs1, h1, StableHlo.Predicate.toInt_ofNat_small _ (by omega)]
    omega

/-! ## One entry of a vector -/

/-- The vector of the patches taken at the tiles' words. -/
def taken (x : S51076.Idx → α) (o : S1024.Idx → BitVec 32) : S1024.Idx → α :=
  Host.gather gather_S51076_S1024x1_S1024_n_0_n_n_0_1_1 x (broadcastInDim S1024x1 ![0] bcast_S1024_S1024x1_0 (wrapTop 51076#32 o))

/-- The take reads the entry its word names. -/
theorem taken_apply (x : S51076.Idx → α) (o : S1024.Idx → BitVec 32) (p : Fin 1024) {k : ℕ} (hk : k < 51076) (h : o (ix1 p) = BitVec.ofNat 32 k) :
    taken x o (ix1 p) = x (ix1 ⟨k, hk⟩) := by
  refine Routing.take_ap gather_S51076_S1024x1_S1024_n_0_n_n_0_1_1 rfl rfl rfl rfl x _ p hk (by omega) ?_
  refine (broadcastInDim_apply _ _ _ _ (ix1 p) (fun b => by fin_cases b; rfl)).trans ?_
  exact wrapTop_apply _ o _ h (by omega)

/-! ## The patches -/

/-- A channel word (zero), a row word and a column word for each tile, side by side. -/
def triples (r c : S1024.Idx → BitVec 32) : S1024x3.Idx → BitVec 32 :=
  concatenate S1024x3 1 [⟨S1024x1, broadcastInDim S1024x1 ![] bcast_S_S1024x1 (constantI S_ 32 0#32)⟩,
    ⟨S1024x1, broadcastInDim S1024x1 ![0] bcast_S1024_S1024x1_0 (wrapTop 2048#32 r)⟩,
    ⟨S1024x1, broadcastInDim S1024x1 ![0] bcast_S1024_S1024x1_0 (wrapTop 2048#32 c)⟩] concatenates_S1024x1_S1024x1_S1024x1_S1024x3_d1

/-- A triple's channel word is zero. -/
theorem triples_chan (r c : S1024.Idx → BitVec 32) (p : Fin 1024) : triples r c (ix2 p (0 : Fin 3)) = 0#32 := by
  unfold triples
  refine (concatenate_apply_piece (t := S1024x3) 1 _ _ (ix2 p (0 : Fin 3)) 0 (by simp) S1024x1 _ rfl rfl 0 rfl (ix2 p (0 : Fin 1))
    (fun b hb => by fin_cases b; rfl; exact absurd rfl hb) rfl).trans ?_
  rfl

/-- A triple's row word. -/
theorem triples_row (r c : S1024.Idx → BitVec 32) (p : Fin 1024) : triples r c (ix2 p (1 : Fin 3)) = wrapTop 2048#32 r (ix1 p) := by
  unfold triples
  refine (concatenate_apply_piece (t := S1024x3) 1 _ _ (ix2 p (1 : Fin 3)) 1 (by simp) S1024x1 _ rfl rfl 1 rfl (ix2 p (0 : Fin 1))
    (fun b hb => by fin_cases b; rfl; exact absurd rfl hb) rfl).trans ?_
  exact broadcastInDim_apply _ _ _ _ (ix1 p) (fun b => by fin_cases b; rfl)

/-- A triple's column word. -/
theorem triples_col (r c : S1024.Idx → BitVec 32) (p : Fin 1024) : triples r c (ix2 p (2 : Fin 3)) = wrapTop 2048#32 c (ix1 p) := by
  unfold triples
  refine (concatenate_apply_piece (t := S1024x3) 1 _ _ (ix2 p (2 : Fin 3)) 2 (by simp) S1024x1 _ rfl rfl 2 rfl (ix2 p (0 : Fin 1))
    (fun b hb => by fin_cases b; rfl; exact absurd rfl hb) rfl).trans ?_
  exact broadcastInDim_apply _ _ _ _ (ix1 p) (fun b => by fin_cases b; rfl)

/-- The gather of patches reads, at a tile, a channel and a place, the pixel at that place from the corner its words name. -/
theorem gatherPatch_apply (x : S3x2048x2048.Idx → α) (r c : S1024.Idx → BitVec 32) (p : Fin 1024) (t : Fin 3) (u v : Fin 16) {a b : ℕ}
    (ha : a ≤ 2032) (hb : b ≤ 2032) (hr : r (ix1 p) = BitVec.ofNat 32 a) (hc : c (ix1 p) = BitVec.ofNat 32 b) :
    Host.gather gather_S3x2048x2048_S1024x3_S1024x3x16x16_123_n_n_n_012_1_31616 x (triples r c) (ix4 p t u v)
      = x (ix3 t ⟨a + u.val, by omega⟩ ⟨b + v.val, by omega⟩) := by
  unfold Host.gather
  refine congrArg x (funext fun e => Fin.ext ?_)
  have hs0 : gather_S3x2048x2048_S1024x3_S1024x3x16x16_123_n_n_n_012_1_31616.siIdx (ix4 p t u v) ⟨0, by decide⟩ = ix2 p (0 : Fin 3) := by
    funext e; fin_cases e <;> rfl
  have hs1 : gather_S3x2048x2048_S1024x3_S1024x3x16x16_123_n_n_n_012_1_31616.siIdx (ix4 p t u v) ⟨1, by decide⟩ = ix2 p (1 : Fin 3) := by
    funext e; fin_cases e <;> rfl
  have hs2 : gather_S3x2048x2048_S1024x3_S1024x3x16x16_123_n_n_n_012_1_31616.siIdx (ix4 p t u v) ⟨2, by decide⟩ = ix2 p (2 : Fin 3) := by
    funext e; fin_cases e <;> rfl
  have h1 := (triples_row r c p).trans (wrapTop_apply _ r (ix1 p) hr (by omega))
  have h2 := (triples_col r c p).trans (wrapTop_apply _ c (ix1 p) hc (by omega))
  fin_cases e
  · show min (triples r c (gather_S3x2048x2048_S1024x3_S1024x3x16x16_123_n_n_n_012_1_31616.siIdx (ix4 p t u v) ⟨0, by decide⟩)).toInt.toNat (3 - 3) + 0 + t.val = t.val
    omega
  · show min (triples r c (gather_S3x2048x2048_S1024x3_S1024x3x16x16_123_n_n_n_012_1_31616.siIdx (ix4 p t u v) ⟨1, by decide⟩)).toInt.toNat (2048 - 16) + 0 + u.val = a + u.val
    rw [hs1, h1, StableHlo.Predicate.toInt_ofNat_small _ (by omega)]
    omega
  · show min (triples r c (gather_S3x2048x2048_S1024x3_S1024x3x16x16_123_n_n_n_012_1_31616.siIdx (ix4 p t u v) ⟨2, by decide⟩)).toInt.toNat (2048 - 16) + 0 + v.val = b + v.val
    rw [hs2, h2, StableHlo.Predicate.toInt_ofNat_small _ (by omega)]
    omega

end Cert.ReferenceIdeal.Fold
-- ==== Proof.Words.lean ====
module

public import proofs.«01_k».proof.Proof.Gen.KernelIdeal.Skeleton

@[expose] public section

/-! # The kernel's index arithmetic on one patch corner

A patch corner is a pair of words `h, w` that are at most 2025. The kernel rounds `h` down to a multiple of 8 and `w` down to
a multiple of 128 that is at most 1792, loads the 24 by 256 window there, and turns the window by what is left of each. -/

namespace Cert.KernelIdeal.Fold

open Idealize.ShloMosaic Idealize.ShloMosaic.TcCoe
open Cert.KernelIdeal Cert.KernelIdeal.Gen

/-- The row where the window of a patch starting at row `h` begins. -/
def row0 (h : ℕ) : ℕ := h / 8 * 8

/-- The column where the window of a patch starting at column `w` begins. -/
def col0 (w : ℕ) : ℕ := min (w / 128 * 128) 1792

/-- The remainder the kernel computes of a word: the sign of the divisor, never zero divided by zero. -/
def fmod (x m : BitVec 32) : BitVec 32 :=
  let m' : BitVec 32 := Scalar.select (Scalar.cmpi .eq m 0#32) 1#32 m
  let r : BitVec 32 := Scalar.remsi x m'
  Scalar.select (Scalar.andi (Scalar.xori (Scalar.cmpi .slt r 0#32) (Scalar.cmpi .slt m' 0#32)) (Scalar.cmpi .ne r 0#32))
    (Scalar.addi r m') r

/-- How far the kernel turns the rows of a window. -/
def rowTurn (h : BitVec 32) : BitVec 32 := fmod (Scalar.subi 0#32 (Scalar.subi h (k0_mult2 h))) 24#32

/-- How far the kernel turns the columns of a window whose patch goes to the columns from `lo` on. -/
def colTurn (lo w : BitVec 32) : BitVec 32 := fmod (Scalar.subi lo (Scalar.subi w (k0_mult1 w))) 256#32

/-- The window's first row, decided for each of the 2026 rows a patch can start at. -/
theorem mult2_cases : ∀ n : Fin 2026, (k0_mult2 (BitVec.ofNat 32 n.val)).toNat = row0 n.val := by decide +kernel

/-- The window's first column, decided for each of the 2026 columns. -/
theorem mult1_cases : ∀ n : Fin 2026, (k0_mult1 (BitVec.ofNat 32 n.val)).toNat = col0 n.val := by decide +kernel

/-- The turn of the rows, decided for each of the 2026 rows: it and the row within the window add up to 0 modulo 24. -/
theorem rowTurn_cases : ∀ n : Fin 2026, (rowTurn (BitVec.ofNat 32 n.val)).toNat = (24 - (n.val - row0 n.val)) % 24 := by
  decide +kernel

/-- The turn of the columns, decided for each of the 8 places in a group and each of the 2026 columns. -/
theorem colTurn_cases : ∀ p : Fin 8, ∀ n : Fin 2026, (colTurn (BitVec.ofNat 32 (16 * p.val)) (BitVec.ofNat 32 n.val)).toNat
    = (16 * p.val + 256 - (n.val - col0 n.val)) % 256 := by
  decide +kernel

/-- Where a trip's block of 16 rows and 128 columns lies in the result. -/
theorem off17_cases : ∀ k : Fin k0_t1_loop.trips, k0_off17 k = ![0, 16 * (k.val / 4), 128 * (k.val % 4)] := by decide +kernel

/-- A word that is at most 2025 is one of the 2026 cases. -/
theorem word_cases {P : BitVec 32 → ℕ → Prop} (hP : ∀ n : Fin 2026, P (BitVec.ofNat 32 n.val) n.val) (v : BitVec 32)
    (hv : v.toNat ≤ 2025) : P v v.toNat := by
  have h := hP ⟨v.toNat, by omega⟩
  simpa using h

/-- The window's offsets in closed form. -/
theorem off2_eq (v w : BitVec 32) (hv : v.toNat ≤ 2025) (hw : w.toNat ≤ 2025) : k0_off2 v w = ![0, row0 v.toNat, col0 w.toNat] := by
  have e : k0_off2 v w = ![0, (k0_mult2 v).toNat, (k0_mult1 w).toNat] := rfl
  rw [e, word_cases (P := fun v n => (k0_mult2 v).toNat = row0 n) mult2_cases v hv,
    word_cases (P := fun v n => (k0_mult1 v).toNat = col0 n) mult1_cases w hw]

/-- The window begins at a multiple of 8 rows. -/
theorem chk2_of (v : BitVec 32) (hv : v.toNat ≤ 2025) : k0_chk2 v := by
  show 8 ∣ (k0_mult2 v).toNat
  rw [word_cases (P := fun v n => (k0_mult2 v).toNat = row0 n) mult2_cases v hv]
  exact ⟨_, Nat.mul_comm _ _⟩

/-- The window begins at a multiple of 128 columns and lies inside the image. -/
theorem chk1_of (v w : BitVec 32) (hv : v.toNat ≤ 2025) (hw : w.toNat ≤ 2025) : k0_chk1 v w := by
  refine ⟨?_, ?_⟩
  · rw [word_cases (P := fun v n => (k0_mult1 v).toNat = col0 n) mult1_cases w hw]
    unfold col0; omega
  · rw [off2_eq v w hv hw]
    intro a
    fin_cases a <;> simp [S1x24x256, S1x2048x2048, row0, col0] <;> omega

end Cert.KernelIdeal.Fold

end
-- ==== Proof.Trip.lean ====
module

public import proofs.«01_k».proof.Proof.Words
public import proofs.«01_k».proof.Proof.Gen.KernelIdeal.Loops
public import Idealize.ShloMosaic.Lib.Pipeline.Regions

@[expose] public section

set_option maxRecDepth 16384
set_option maxHeartbeats 4000000

/-! # One trip of the kernel's loop

A trip reads eight patch corners from the two tables, loads the eight windows and stores the 16 by 128 block made of the eight
patches side by side. -/

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The columns of a 16 by 128 block, as the kernel numbers them. -/
def lanes : IVec S16x128 32 := iota .tc S16x128 32 [1] iota_S16x128_d1_w32

/-- One patch put into a block: the window is turned so that the patch begins at its first row and at column `lo`, and the
    columns from `lo` up to `hi` are taken from it; the rest of the block stays as it was. -/
def lay (lo hi : BitVec 32) (acc : FVec F S16x128 .f32) (h w : BitVec 32) (win : Vec F S1x24x256 .f32) : FVec F S16x128 .f32 :=
  select (andi (cmpi .sge lanes (broadcast S16x128 lo)) (cmpi .slt lanes (broadcast S16x128 hi)))
    (extractStridedSlice S16x128 ![0, 0]
      (dynamicRotate 1 (colTurn lo w) none
        (extractStridedSlice S16x256 ![0, 0]
          (dynamicRotate 0 (rowTurn h) none (shapeCast S24x256 win shapeCasts_S1x24x256_S24x256) rotates_S24x256_d0)
          slices_S24x256_o0_0_S16x256)
        rotates_S16x256_d1)
      slices_S16x256_o0_0_S16x128)
    acc

/-- The word of a table that a load at offset `o` gives. -/
def word (a : Memref sig .tc .smem S1024 .i32) (X : BufTy.Contents (Elt F) a.view.ty) (o : Fin 1 → ℕ)
    (ho : ∀ x, o x + S1.size x ≤ S1024.size x) : BitVec 32 :=
  a.view.readAt (Elt F) (Rect.unit (s := S1024) o S1.size ho).toLoadRect X (Shape.Idx.first (numel1_S1.symm ▸ Nat.one_pos))

/-- The window of the image that a load at offset `o` gives. -/
def window (a : Memref sig .tc .vmem S1x2048x2048 .f32) (X : BufTy.Contents (Elt F) a.view.ty) (o : Fin 3 → ℕ)
    (ho : ∀ x, o x + S1x24x256.size x ≤ S1x2048x2048.size x) : Vec F S1x24x256 .f32 :=
  a.view.readAt (Elt F) (Rect.unit (s := S1x2048x2048) o S1x24x256.size ho).toLoadRect X

/-- The corners of a table lie in the image. -/
def InRange (a : Memref sig .tc .smem S1024 .i32) (X : BufTy.Contents (Elt F) a.view.ty) : Prop :=
  ∀ o ho, (word a X o ho).toNat ≤ 2025

/-- One patch of a trip put into the block: its corner read from the tables at `o`, its window loaded from the image. -/
def layAt (arg1 arg2 : Memref sig .tc .smem S1024 .i32) (arg3 : Memref sig .tc .vmem S1x2048x2048 .f32)
    (X1 : BufTy.Contents (Elt F) arg1.view.ty) (X2 : BufTy.Contents (Elt F) arg2.view.ty) (X3 : BufTy.Contents (Elt F) arg3.view.ty)
    (h1 : InRange arg1 X1) (h2 : InRange arg2 X2) (lo hi : BitVec 32) (acc : FVec F S16x128 .f32) (o : Fin 1 → ℕ)
    (ho : ∀ x, o x + S1.size x ≤ S1024.size x) : FVec F S16x128 .f32 :=
  lay lo hi acc (word arg1 X1 o ho) (word arg2 X2 o ho)
    (window arg3 X3 (k0_off2 (word arg1 X1 o ho) (word arg2 X2 o ho)) (chk1_of _ _ (h1 o ho) (h2 o ho)).2)

/-- The block a trip stores: the eight patches laid side by side over zero. -/
def tripBlock (arg1 arg2 : Memref sig .tc .smem S1024 .i32) (arg3 : Memref sig .tc .vmem S1x2048x2048 .f32)
    (X1 : BufTy.Contents (Elt F) arg1.view.ty) (X2 : BufTy.Contents (Elt F) arg2.view.ty) (X3 : BufTy.Contents (Elt F) arg3.view.ty)
    (h1 : InRange arg1 X1) (h2 : InRange arg2 X2) (k : Fin k0_t1_loop.trips) : FVec F S16x128 .f32 :=
  let put := layAt arg1 arg2 arg3 X1 X2 X3 h1 h2
  put 112#32 128#32 (put 96#32 112#32 (put 80#32 96#32 (put 64#32 80#32 (put 48#32 64#32 (put 32#32 48#32 (put 16#32 32#32
    (put 0#32 16#32 k0_pay2 (k0_off1 k) (k0_off1_inb k)) (k0_off3 k) (k0_off3_inb k)) (k0_off5 k) (k0_off5_inb k))
    (k0_off7 k) (k0_off7_inb k)) (k0_off9 k) (k0_off9_inb k)) (k0_off11 k) (k0_off11_inb k)) (k0_off13 k) (k0_off13_inb k))
    (k0_off15 k) (k0_off15_inb k)

/-- The one write of a trip. -/
def tripPiece (arg1 arg2 : Memref sig .tc .smem S1024 .i32) (arg3 : Memref sig .tc .vmem S1x2048x2048 .f32)
    (X1 : BufTy.Contents (Elt F) arg1.view.ty) (X2 : BufTy.Contents (Elt F) arg2.view.ty) (X3 : BufTy.Contents (Elt F) arg3.view.ty)
    (h1 : InRange arg1 X1) (h2 : InRange arg2 X2) (k : Fin k0_t1_loop.trips) : View.Piece (Elt F) S1x512x512 .f32 :=
  ⟨Rect.unit (s := S1x512x512) (k0_off17 k) S1x16x128.size (k0_off17_inb k), k0_pay1 (tripBlock arg1 arg2 arg3 X1 X2 X3 h1 h2 k)⟩

/-- What a trip holds: the two tables at half share, the image, and the block of the result. -/
abbrev Held (c : Dev nD) (arg1 arg2 : Memref sig .tc .smem S1024 .i32) (arg3 : Memref sig .tc .vmem S1x2048x2048 .f32)
    (arg4 : Memref sig .tc .vmem S1x512x512 .f32) (X1 : BufTy.Contents (Elt F) arg1.view.ty) (X2 : BufTy.Contents (Elt F) arg2.view.ty)
    (X3 : BufTy.Contents (Elt F) arg3.view.ty) (f : BufTy.Contents (Elt F) arg4.view.ty)
    : sProp (MT nD τ sig Unit (Elt F) ℕ (UR sig nD τ) ℕ) :=
  iprop((arg1.view.loc (c : Thread nD τ) ↦[arg1.view.set]{fullShare.right} X1)
    ∗ (arg2.view.loc (c : Thread nD τ) ↦[arg2.view.set]{fullShare.right} X2)
    ∗ (arg3.view.loc (c : Thread nD τ) ↦[arg3.view.set]{fullShare} X3)
    ∗ (arg4.view.loc (c : Thread nD τ) ↦[arg4.view.set]{fullShare} f))

/-- One trip run: it makes one list of writes, whatever the result held before. -/
def tripRun (𝒱 : Variants) (c : Dev nD) (bd : Option 𝒱.V) (i : grid0.Coords)
    (arg1 : Memref sig .tc .smem S1024 .i32) (harg1 : arg1.IsWhole) (arg2 : Memref sig .tc .smem S1024 .i32) (harg2 : arg2.IsWhole)
    (arg3 : Memref sig .tc .vmem S1x2048x2048 .f32) (harg3 : arg3.IsWhole)
    (arg4 : Memref sig .tc .vmem S1x512x512 .f32) (harg4 : arg4.IsWhole)
    (X1 : BufTy.Contents (Elt F) arg1.view.ty) (X2 : BufTy.Contents (Elt F) arg2.view.ty) (X3 : BufTy.Contents (Elt F) arg3.view.ty)
    (h1 : InRange arg1 X1) (h2 : InRange arg2 X2) (k : Fin k0_t1_loop.trips) :
    { L : List (View.Piece (Elt F) S1x512x512 .f32) // ∀ (E : Set ℕ) (f : BufTy.Contents (Elt F) arg4.view.ty),
      Held c arg1 arg2 arg3 arg4 X1 X2 X3 f
      ⊢ wp frame (wpE (defs₀ (F := F)) 𝒱 (c : Thread nD τ) bd) E
          (k0_t1_body (F := F) i arg1 harg1 arg2 harg2 arg3 harg3 arg4 harg4 lanes k PUnit.unit)
          (fun _ => Held c arg1 arg2 arg3 arg4 X1 X2 X3 (arg4.view.writes (Elt F) f L)) } := by
  have hk : k.val < 128 := Nat.lt_of_lt_of_le k.isLt k0_t1_abs.2.1
  have k0_hw2 : k0_chk2 (arg1.view.readAt (Elt F) (Rect.unit (s := S1024) (k0_off1 k) S1.size (k0_off1_inb k)).toLoadRect X1 (Shape.Idx.first (numel1_S1.symm ▸ Nat.one_pos))) := chk2_of _ (h1 _ (k0_off1_inb k))
  have k0_hw1 : k0_chk1 (arg1.view.readAt (Elt F) (Rect.unit (s := S1024) (k0_off1 k) S1.size (k0_off1_inb k)).toLoadRect X1 (Shape.Idx.first (numel1_S1.symm ▸ Nat.one_pos))) (arg2.view.readAt (Elt F) (Rect.unit (s := S1024) (k0_off1 k) S1.size (k0_off1_inb k)).toLoadRect X2 (Shape.Idx.first (numel1_S1.symm ▸ Nat.one_pos))) := chk1_of _ _ (h1 _ (k0_off1_inb k)) (h2 _ (k0_off1_inb k))
  have k0_hw4 : k0_chk4 (arg1.view.readAt (Elt F) (Rect.unit (s := S1024) (k0_off3 k) S1.size (k0_off3_inb k)).toLoadRect X1 (Shape.Idx.first (numel1_S1.symm ▸ Nat.one_pos))) := chk2_of _ (h1 _ (k0_off3_inb k))
  have k0_hw3 : k0_chk3 (arg1.view.readAt (Elt F) (Rect.unit (s := S1024) (k0_off3 k) S1.size (k0_off3_inb k)).toLoadRect X1 (Shape.Idx.first (numel1_S1.symm ▸ Nat.one_pos))) (arg2.view.readAt (Elt F) (Rect.unit (s := S1024) (k0_off3 k) S1.size (k0_off3_inb k)).toLoadRect X2 (Shape.Idx.first (numel1_S1.symm ▸ Nat.one_pos))) := chk1_of _ _ (h1 _ (k0_off3_inb k)) (h2 _ (k0_off3_inb k))
  have k0_hw6 : k0_chk6 (arg1.view.readAt (Elt F) (Rect.unit (s := S1024) (k0_off5 k) S1.size (k0_off5_inb k)).toLoadRect X1 (Shape.Idx.first (numel1_S1.symm ▸ Nat.one_pos))) := chk2_of _ (h1 _ (k0_off5_inb k))
  have k0_hw5 : k0_chk5 (arg1.view.readAt (Elt F) (Rect.unit (s := S1024) (k0_off5 k) S1.size (k0_off5_inb k)).toLoadRect X1 (Shape.Idx.first (numel1_S1.symm ▸ Nat.one_pos))) (arg2.view.readAt (Elt F) (Rect.unit (s := S1024) (k0_off5 k) S1.size (k0_off5_inb k)).toLoadRect X2 (Shape.Idx.first (numel1_S1.symm ▸ Nat.one_pos))) := chk1_of _ _ (h1 _ (k0_off5_inb k)) (h2 _ (k0_off5_inb k))
  have k0_hw8 : k0_chk8 (arg1.view.readAt (Elt F) (Rect.unit (s := S1024) (k0_off7 k) S1.size (k0_off7_inb k)).toLoadRect X1 (Shape.Idx.first (numel1_S1.symm ▸ Nat.one_pos))) := chk2_of _ (h1 _ (k0_off7_inb k))
  have k0_hw7 : k0_chk7 (arg1.view.readAt (Elt F) (Rect.unit (s := S1024) (k0_off7 k) S1.size (k0_off7_inb k)).toLoadRect X1 (Shape.Idx.first (numel1_S1.symm ▸ Nat.one_pos))) (arg2.view.readAt (Elt F) (Rect.unit (s := S1024) (k0_off7 k) S1.size (k0_off7_inb k)).toLoadRect X2 (Shape.Idx.first (numel1_S1.symm ▸ Nat.one_pos))) := chk1_of _ _ (h1 _ (k0_off7_inb k)) (h2 _ (k0_off7_inb k))
  have k0_hw10 : k0_chk10 (arg1.view.readAt (Elt F) (Rect.unit (s := S1024) (k0_off9 k) S1.size (k0_off9_inb k)).toLoadRect X1 (Shape.Idx.first (numel1_S1.symm ▸ Nat.one_pos))) := chk2_of _ (h1 _ (k0_off9_inb k))
  have k0_hw9 : k0_chk9 (arg1.view.readAt (Elt F) (Rect.unit (s := S1024) (k0_off9 k) S1.size (k0_off9_inb k)).toLoadRect X1 (Shape.Idx.first (numel1_S1.symm ▸ Nat.one_pos))) (arg2.view.readAt (Elt F) (Rect.unit (s := S1024) (k0_off9 k) S1.size (k0_off9_inb k)).toLoadRect X2 (Shape.Idx.first (numel1_S1.symm ▸ Nat.one_pos))) := chk1_of _ _ (h1 _ (k0_off9_inb k)) (h2 _ (k0_off9_inb k))
  have k0_hw12 : k0_chk12 (arg1.view.readAt (Elt F) (Rect.unit (s := S1024) (k0_off11 k) S1.size (k0_off11_inb k)).toLoadRect X1 (Shape.Idx.first (numel1_S1.symm ▸ Nat.one_pos))) := chk2_of _ (h1 _ (k0_off11_inb k))
  have k0_hw11 : k0_chk11 (arg1.view.readAt (Elt F) (Rect.unit (s := S1024) (k0_off11 k) S1.size (k0_off11_inb k)).toLoadRect X1 (Shape.Idx.first (numel1_S1.symm ▸ Nat.one_pos))) (arg2.view.readAt (Elt F) (Rect.unit (s := S1024) (k0_off11 k) S1.size (k0_off11_inb k)).toLoadRect X2 (Shape.Idx.first (numel1_S1.symm ▸ Nat.one_pos))) := chk1_of _ _ (h1 _ (k0_off11_inb k)) (h2 _ (k0_off11_inb k))
  have k0_hw14 : k0_chk14 (arg1.view.readAt (Elt F) (Rect.unit (s := S1024) (k0_off13 k) S1.size (k0_off13_inb k)).toLoadRect X1 (Shape.Idx.first (numel1_S1.symm ▸ Nat.one_pos))) := chk2_of _ (h1 _ (k0_off13_inb k))
  have k0_hw13 : k0_chk13 (arg1.view.readAt (Elt F) (Rect.unit (s := S1024) (k0_off13 k) S1.size (k0_off13_inb k)).toLoadRect X1 (Shape.Idx.first (numel1_S1.symm ▸ Nat.one_pos))) (arg2.view.readAt (Elt F) (Rect.unit (s := S1024) (k0_off13 k) S1.size (k0_off13_inb k)).toLoadRect X2 (Shape.Idx.first (numel1_S1.symm ▸ Nat.one_pos))) := chk1_of _ _ (h1 _ (k0_off13_inb k)) (h2 _ (k0_off13_inb k))
  have k0_hw16 : k0_chk16 (arg1.view.readAt (Elt F) (Rect.unit (s := S1024) (k0_off15 k) S1.size (k0_off15_inb k)).toLoadRect X1 (Shape.Idx.first (numel1_S1.symm ▸ Nat.one_pos))) := chk2_of _ (h1 _ (k0_off15_inb k))
  have k0_hw15 : k0_chk15 (arg1.view.readAt (Elt F) (Rect.unit (s := S1024) (k0_off15 k) S1.size (k0_off15_inb k)).toLoadRect X1 (Shape.Idx.first (numel1_S1.symm ▸ Nat.one_pos))) (arg2.view.readAt (Elt F) (Rect.unit (s := S1024) (k0_off15 k) S1.size (k0_off15_inb k)).toLoadRect X2 (Shape.Idx.first (numel1_S1.symm ▸ Nat.one_pos))) := chk1_of _ _ (h1 _ (k0_off15_inb k)) (h2 _ (k0_off15_inb k))
  refine ⟨?_, fun E f => ?run⟩
  case run =>
    unfold k0_t1_body
    iintro ⟨HR1, HR2, HR3, HW⟩
    sl_exec
    sl_step
    sl_close

/-- The list of a trip's writes is the one write of the eight patches laid side by side. -/
theorem tripRun_val (𝒱 : Variants) (c : Dev nD) (bd : Option 𝒱.V) (i : grid0.Coords)
    (arg1 : Memref sig .tc .smem S1024 .i32) (harg1 : arg1.IsWhole) (arg2 : Memref sig .tc .smem S1024 .i32) (harg2 : arg2.IsWhole)
    (arg3 : Memref sig .tc .vmem S1x2048x2048 .f32) (harg3 : arg3.IsWhole)
    (arg4 : Memref sig .tc .vmem S1x512x512 .f32) (harg4 : arg4.IsWhole)
    (X1 : BufTy.Contents (Elt F) arg1.view.ty) (X2 : BufTy.Contents (Elt F) arg2.view.ty) (X3 : BufTy.Contents (Elt F) arg3.view.ty)
    (h1 : InRange arg1 X1) (h2 : InRange arg2 X2) (k : Fin k0_t1_loop.trips) :
    (tripRun 𝒱 c bd i arg1 harg1 arg2 harg2 arg3 harg3 arg4 harg4 X1 X2 X3 h1 h2 k).1
      = [tripPiece arg1 arg2 arg3 X1 X2 X3 h1 h2 k] := by
  chain_rfl

end Cert.KernelIdeal.Fold

end

end
-- ==== Proof.Patch.lean ====
module

public import proofs.«01_k».proof.Proof.Trip
public import Idealize.ShloMosaic.Lib.KernelVsHost
public import Idealize.ShloMosaic.Lib.WritesUnit

@[expose] public section

set_option maxRecDepth 16384

/-! # What one trip stores

The block a trip stores holds, at row `r` and column `16 p + j`, the image's entry `r` rows and `j` columns from the corner
number `8 k + p` of the tables. -/

noncomputable section

namespace Cert.KernelIdeal.Fold

open Idealize.ShloMosaic Idealize.ShloMosaic.TcCoe
open Cert.KernelIdeal Cert.KernelIdeal.Gen

variable {F : FTy → Type} [FloatOps F] {α : Type}

/-- The entry of an image at a row and a column. -/
def imgAt (X : S1x2048x2048.Idx → α) (r c : ℕ) : α :=
  X fun a => ⟨(![0, r, c] : Fin 3 → ℕ) a % S1x2048x2048.size a, Nat.mod_lt _ (by fin_cases a <;> decide)⟩

/-- The entry of a table at a place. -/
def tabAt (T : S1024.Idx → α) (l : ℕ) : α := T fun a => ⟨l % S1024.size a, Nat.mod_lt _ (by fin_cases a; decide)⟩

/-- An image's entry at an index is the one at the index's row and column. -/
theorem imgAt_of_val (X : S1x2048x2048.Idx → α) (i : S1x2048x2048.Idx) (r c : ℕ) (hr : (i 1).val = r) (hc : (i 2).val = c) :
    X i = imgAt X r c := by
  subst hr hc
  refine congrArg X (funext fun a => Fin.ext ?_)
  fin_cases a
  · have h := (i 0).isLt
    have h1 : S1x2048x2048.size 0 = 1 := rfl
    show (i 0).val = 0 % 1
    omega
  · exact (Nat.mod_eq_of_lt (i 1).isLt).symm
  · exact (Nat.mod_eq_of_lt (i 2).isLt).symm

/-- A table's entry at an index is the one at the index's place. -/
theorem tabAt_of_val (T : S1024.Idx → α) (i : S1024.Idx) (l : ℕ) (hl : (i 0).val = l) : T i = tabAt T l := by
  subst hl
  refine congrArg T (funext fun a => Fin.ext ?_)
  fin_cases a
  exact (Nat.mod_eq_of_lt (i 0).isLt).symm

/-- The word loaded at offset `o` is the table's entry there. -/
theorem word_eq (a : Memref sig .tc .smem S1024 .i32) (X : BufTy.Contents (Elt F) a.view.ty) (o : Fin 1 → ℕ)
    (ho : ∀ x, o x + S1.size x ≤ S1024.size x) : word a X o ho = tabAt (α := BitVec 32) (a.view.read (Elt F) X) (o 0) := by
  refine tabAt_of_val (α := BitVec 32) (a.view.read (Elt F) X) ((Rect.unit (s := S1024) o S1.size ho).emb _) (o 0) ?_
  show o 0 + 1 * 0 = o 0
  omega

/-- The window loaded at offset `o` read at an index is the image's entry there. -/
theorem window_apply (a : Memref sig .tc .vmem S1x2048x2048 .f32) (X : BufTy.Contents (Elt F) a.view.ty) (o : Fin 3 → ℕ)
    (ho : ∀ x, o x + S1x24x256.size x ≤ S1x2048x2048.size x) (z : S1x24x256.Idx) :
    window a X o ho z = imgAt (a.view.read (Elt F) X) (o 1 + (z 1).val) (o 2 + (z 2).val) := by
  refine imgAt_of_val (a.view.read (Elt F) X) ((Rect.unit (s := S1x2048x2048) o S1x24x256.size ho).emb z) _ _ ?_ ?_
  · show o 1 + 1 * (z 1).val = _
    omega
  · show o 2 + 1 * (z 2).val = _
    omega

/-- Whether a column lies among the 16 of place `p`, as the kernel decides it. -/
theorem lane_cases : ∀ p : Fin 8, ∀ l : Fin 128,
    Scalar.andi (Scalar.cmpi .sge (BitVec.ofNat 32 l.val) (BitVec.ofNat 32 (16 * p.val)))
      (Scalar.cmpi .slt (BitVec.ofNat 32 l.val) (BitVec.ofNat 32 (16 * p.val + 16)))
    = if 16 * p.val ≤ l.val ∧ l.val < 16 * p.val + 16 then 1#1 else 0#1 := by decide +kernel

/-- A patch put into a block: at the 16 columns of place `p` the block holds the image from the corner on, elsewhere what it
    held. -/
theorem lay_apply (X : S1x2048x2048.Idx → F .f32) (p : Fin 8) (acc : FVec F S16x128 .f32) (h w : BitVec 32)
    (hh : h.toNat ≤ 2025) (hw : w.toNat ≤ 2025) (win : Vec F S1x24x256 .f32)
    (hwin : ∀ z : S1x24x256.Idx, win z = imgAt X (row0 h.toNat + (z 1).val) (col0 w.toNat + (z 2).val)) (y : S16x128.Idx) :
    lay (BitVec.ofNat 32 (16 * p.val)) (BitVec.ofNat 32 (16 * p.val + 16)) acc h w win y
      = if 16 * p.val ≤ (y 1).val ∧ (y 1).val < 16 * p.val + 16 then imgAt X (h.toNat + (y 0).val) (w.toNat + ((y 1).val - 16 * p.val))
        else acc y := by
  have y0 : (y 0).val < 16 := (y 0).isLt
  have y1 : (y 1).val < 128 := (y 1).isLt
  have hp : p.val < 8 := p.isLt
  have hl : lanes y = BitVec.ofNat 32 (y 1).val := by
    show BitVec.ofNat 32 (0 * 128 + (y 1).val) = _
    rw [Nat.zero_mul, Nat.zero_add]
  have hc := lane_cases p ⟨(y 1).val, y1⟩
  have hsel : ∀ a b : F .f32, Scalar.select (Scalar.andi (Scalar.cmpi .sge (lanes y) (BitVec.ofNat 32 (16 * p.val)))
      (Scalar.cmpi .slt (lanes y) (BitVec.ofNat 32 (16 * p.val + 16)))) a b
      = if 16 * p.val ≤ (y 1).val ∧ (y 1).val < 16 * p.val + 16 then a else b := by
    intro a b
    rw [hl]
    rw [show (Scalar.andi (Scalar.cmpi .sge (BitVec.ofNat 32 (y 1).val) (BitVec.ofNat 32 (16 * p.val)))
      (Scalar.cmpi .slt (BitVec.ofNat 32 (y 1).val) (BitVec.ofNat 32 (16 * p.val + 16))) : BitVec 1) = _ from hc]
    by_cases hcond : 16 * p.val ≤ (y 1).val ∧ (y 1).val < 16 * p.val + 16
    · rw [if_pos hcond, if_pos hcond]; rfl
    · rw [if_neg hcond, if_neg hcond]; rfl
  refine (hsel _ _).trans ?_
  by_cases hcond : 16 * p.val ≤ (y 1).val ∧ (y 1).val < 16 * p.val + 16
  · rw [if_pos hcond, if_pos hcond]
    have hr := word_cases (P := fun v n => (rowTurn v).toNat = (24 - (n - row0 n)) % 24) rowTurn_cases h hh
    have hk := word_cases (P := fun v n => (colTurn (BitVec.ofNat 32 (16 * p.val)) v).toNat = (16 * p.val + 256 - (n - col0 n)) % 256)
      (colTurn_cases p) w hw
    have hr0 : row0 h.toNat ≤ h.toNat ∧ h.toNat - row0 h.toNat < 8 := by unfold row0; omega
    have hk0 : col0 w.toNat ≤ w.toNat ∧ w.toNat - col0 w.toNat ≤ 233 := by unfold col0; omega
    have n1 : (y 1).val - 16 * p.val + (w.toNat - col0 w.toNat) < 256 := by omega
    have n0 : (y 0).val + (h.toNat - row0 h.toNat) < 24 := by omega
    let z : S1x24x256.Idx := Fin.cons ⟨0, Nat.one_pos⟩ (Fin.cons ⟨(y 0).val + (h.toNat - row0 h.toNat), n0⟩
      (Fin.cons ⟨(y 1).val - 16 * p.val + (w.toNat - col0 w.toNat), n1⟩ finZeroElim))
    let z2 : S24x256.Idx := Fin.cons ⟨(y 0).val + (h.toNat - row0 h.toNat), n0⟩
      (Fin.cons ⟨(y 1).val - 16 * p.val + (w.toNat - col0 w.toNat), n1⟩ finZeroElim)
    let z3 : S24x256.Idx := Fin.cons ⟨(y 0).val, by show (y 0).val < 24; omega⟩
      (Fin.cons ⟨(y 1).val - 16 * p.val + (w.toNat - col0 w.toNat), n1⟩ finZeroElim)
    let z4 : S16x256.Idx := Fin.cons ⟨(y 0).val, y0⟩
      (Fin.cons ⟨(y 1).val - 16 * p.val + (w.toNat - col0 w.toNat), n1⟩ finZeroElim)
    let z5 : S16x256.Idx := Fin.cons ⟨(y 0).val, y0⟩ (Fin.cons ⟨(y 1).val, by show (y 1).val < 256; omega⟩ finZeroElim)
    rw [extractStridedSlice_apply _ _ _ _ z5 (by
      intro a; fin_cases a
      · show (y 0).val = 0 + (y 0).val; omega
      · show (y 1).val = 0 + (y 1).val; omega)]
    rw [dynamicRotate_apply _ _ _ _ _ z4 (by
      intro a; fin_cases a
      · rfl
      · show (y 1).val - 16 * p.val + (w.toNat - col0 w.toNat) = ((y 1).val + 256 - _ % 256) % 256
        rw [hk]; omega)]
    rw [extractStridedSlice_apply _ _ _ _ z3 (by
      intro a; fin_cases a
      · show (y 0).val = 0 + (y 0).val; omega
      · show (y 1).val - 16 * p.val + (w.toNat - col0 w.toNat) = 0 + ((y 1).val - 16 * p.val + (w.toNat - col0 w.toNat)); omega)]
    rw [dynamicRotate_apply _ _ _ _ _ z2 (by
      intro a; fin_cases a
      · show (y 0).val + (h.toNat - row0 h.toNat) = ((y 0).val + 24 - _ % 24) % 24
        rw [hr]; omega
      · rfl)]
    have hd : shapeCast S24x256 win shapeCasts_S1x24x256_S24x256 z2 = win z :=
      shapeCast_dropUnit_apply (n := 2) ![24, 256] win shapeCasts_S1x24x256_S24x256 z2
    rw [hd, hwin z]
    have e1 : (z 1).val = (y 0).val + (h.toNat - row0 h.toNat) := rfl
    have e2 : (z 2).val = (y 1).val - 16 * p.val + (w.toNat - col0 w.toNat) := rfl
    rw [e1, e2]
    congr 1 <;> omega
  · rw [if_neg hcond, if_neg hcond]

section Trip

variable (arg1 arg2 : Memref sig .tc .smem S1024 .i32) (arg3 : Memref sig .tc .vmem S1x2048x2048 .f32)
  (X1 : BufTy.Contents (Elt F) arg1.view.ty) (X2 : BufTy.Contents (Elt F) arg2.view.ty) (X3 : BufTy.Contents (Elt F) arg3.view.ty)
  (h1 : InRange arg1 X1) (h2 : InRange arg2 X2)

/-- The image's entry `r` rows and `j` columns from the corner number `l` of two tables. -/
def patchAt (T1 T2 : S1024.Idx → BitVec 32) (X : S1x2048x2048.Idx → α) (l r j : ℕ) : α :=
  imgAt X ((tabAt T1 l).toNat + r) ((tabAt T2 l).toNat + j)

/-- The block's first `16 n` columns hold the first `n` patches of trip `k`. -/
def Laid (T1 T2 : S1024.Idx → BitVec 32) (X : S1x2048x2048.Idx → α) (k n : ℕ) (acc : S16x128.Idx → α) : Prop :=
  ∀ y : S16x128.Idx, (y 1).val < 16 * n → acc y = patchAt T1 T2 X (8 * k + (y 1).val / 16) (y 0).val ((y 1).val % 16)

/-- Putting patch `p` behind the first `p` gives the first `p + 1`. -/
theorem laid_step (k p : ℕ) (lo hi : BitVec 32) (hp : p < 8) (hlo : lo = BitVec.ofNat 32 (16 * p))
    (hhi : hi = BitVec.ofNat 32 (16 * p + 16)) (acc : FVec F S16x128 .f32) (o : Fin 1 → ℕ)
    (ho : ∀ x, o x + S1.size x ≤ S1024.size x) (e : o = ![8 * k + p])
    (hacc : Laid (arg1.view.read (Elt F) X1) (arg2.view.read (Elt F) X2) (arg3.view.read (Elt F) X3) k p acc) :
    Laid (arg1.view.read (Elt F) X1) (arg2.view.read (Elt F) X2) (arg3.view.read (Elt F) X3) k (p + 1)
      (layAt arg1 arg2 arg3 X1 X2 X3 h1 h2 lo hi acc o ho) := by
  subst hlo hhi
  intro y hy
  have e0 : o 0 = 8 * k + p := by rw [e]; rfl
  have hw1 := h1 o ho
  have hw2 := h2 o ho
  unfold layAt
  rw [lay_apply (arg3.view.read (Elt F) X3) ⟨p, hp⟩ acc _ _ hw1 hw2 _ (by
    intro z
    rw [window_apply, off2_eq _ _ hw1 hw2]
    rfl) y]
  by_cases hcond : 16 * p ≤ (y 1).val ∧ (y 1).val < 16 * p + 16
  · rw [if_pos hcond, word_eq, word_eq, e0]
    have q1 : (y 1).val / 16 = p := by omega
    have q2 : (y 1).val % 16 = (y 1).val - 16 * p := by omega
    rw [q1, q2]
    rfl
  · rw [if_neg hcond]
    exact hacc y (by omega)

/-- What a trip stores: the eight patches of the trip, side by side. -/
theorem tripBlock_apply (k : Fin k0_t1_loop.trips) (y : S16x128.Idx) :
    tripBlock arg1 arg2 arg3 X1 X2 X3 h1 h2 k y
      = patchAt (arg1.view.read (Elt F) X1) (arg2.view.read (Elt F) X2) (arg3.view.read (Elt F) X3)
          (8 * k.val + (y 1).val / 16) (y 0).val ((y 1).val % 16) := by
  have step := laid_step arg1 arg2 arg3 X1 X2 X3 h1 h2 k.val
  have y1 : (y 1).val < 128 := (y 1).isLt
  have start : Laid (arg1.view.read (Elt F) X1) (arg2.view.read (Elt F) X2) (arg3.view.read (Elt F) X3) k.val 0
      (k0_pay2 : FVec F S16x128 .f32) := fun z hz => absurd hz (by omega)
  have s1 := step 0 0#32 16#32 (by decide) rfl rfl _ _ (k0_off1_inb k) (k0_off1_eq k) start
  have s2 := step 1 16#32 32#32 (by decide) rfl rfl _ _ (k0_off3_inb k) (k0_off3_eq k) s1
  have s3 := step 2 32#32 48#32 (by decide) rfl rfl _ _ (k0_off5_inb k) (k0_off5_eq k) s2
  have s4 := step 3 48#32 64#32 (by decide) rfl rfl _ _ (k0_off7_inb k) (k0_off7_eq k) s3
  have s5 := step 4 64#32 80#32 (by decide) rfl rfl _ _ (k0_off9_inb k) (k0_off9_eq k) s4
  have s6 := step 5 80#32 96#32 (by decide) rfl rfl _ _ (k0_off11_inb k) (k0_off11_eq k) s5
  have s7 := step 6 96#32 112#32 (by decide) rfl rfl _ _ (k0_off13_inb k) (k0_off13_eq k) s6
  have s8 := step 7 112#32 128#32 (by decide) rfl rfl _ _ (k0_off15_inb k) (k0_off15_eq k) s7
  exact s8 y (by omega)

end Trip

end Cert.KernelIdeal.Fold

end

end
-- ==== Proof.Body.lean ====
module

public import proofs.«01_k».proof.Proof.Patch
public import Idealize.ShloMosaic.Lib.Pipeline.FrameBody
public import Idealize.ShloMosaic.Lib.Ring

@[expose] public section

set_option maxRecDepth 16384
set_option maxHeartbeats 1000000

/-! # The kernel's body on one channel

The loop keeps: the tables and the image are as they were, and the blocks of the trips already made hold their patches. After
the 128 trips the whole 512 by 512 result is made of patches. -/

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {α : Type}

/-- The result of one channel: the 32 by 32 patches of the tables' corners, each in its place. -/
def foldImg (T1 T2 : S1024.Idx → BitVec 32) (X : S1x2048x2048.Idx → α) : S1x512x512.Idx → α :=
  fun y => patchAt T1 T2 X (32 * ((y 1).val / 16) + (y 2).val / 16) ((y 1).val % 16) ((y 2).val % 16)

section Trips

variable (arg1 arg2 : Memref sig .tc .smem S1024 .i32) (arg3 : Memref sig .tc .vmem S1x2048x2048 .f32)
  (arg4 : Memref sig .tc .vmem S1x512x512 .f32)
  (X1 : BufTy.Contents (Elt F) arg1.view.ty) (X2 : BufTy.Contents (Elt F) arg2.view.ty) (X3 : BufTy.Contents (Elt F) arg3.view.ty)
  (h1 : InRange arg1 X1) (h2 : InRange arg2 X2)

/-- The blocks of the trips before `k` hold their patches. -/
def Done (k : ℕ) (f : BufTy.Contents (Elt F) arg4.view.ty) : Prop :=
  ∀ y : S1x512x512.Idx, 4 * ((y 1).val / 16) + (y 2).val / 128 < k →
    arg4.view.read (Elt F) f y = foldImg (arg1.view.read (Elt F) X1) (arg2.view.read (Elt F) X2) (arg3.view.read (Elt F) X3) y

include h1 h2 in
/-- A trip's write adds its block. -/
theorem done_step (k : Fin k0_t1_loop.trips) (f : BufTy.Contents (Elt F) arg4.view.ty) (hf : Done arg1 arg2 arg3 arg4 X1 X2 X3 k.val f) :
    Done arg1 arg2 arg3 arg4 X1 X2 X3 (k.val + 1) (arg4.view.writes (Elt F) f [tripPiece arg1 arg2 arg3 X1 X2 X3 h1 h2 k]) := by
  intro y hy
  have y0 : (y 0).val < 1 := (y 0).isLt
  have y1 : (y 1).val < 512 := (y 1).isLt
  have y2 : (y 2).val < 512 := (y 2).isLt
  have hk : k.val < 128 := Nat.lt_of_lt_of_le k.isLt k0_t1_abs.2.1
  unfold tripPiece
  by_cases hin : 4 * ((y 1).val / 16) + (y 2).val / 128 = k.val
  · let x : S1x16x128.Idx := Fin.cons ⟨0, Nat.one_pos⟩ (Fin.cons ⟨(y 1).val % 16, Nat.mod_lt _ (by decide)⟩
      (Fin.cons ⟨(y 2).val % 128, Nat.mod_lt _ (by decide)⟩ finZeroElim))
    rw [View.read_writes_cons_unit_of_mem arg4.view f (k0_off17_inb k) _ [] y x (off17_cases k) (by
      intro a; fin_cases a
      · show (y 0).val = 0 + 0; omega
      · show (y 1).val = 16 * (k.val / 4) + (y 1).val % 16; omega
      · show (y 2).val = 128 * (k.val % 4) + (y 2).val % 128; omega)]
    have hc : k0_pay1 (tripBlock arg1 arg2 arg3 X1 X2 X3 h1 h2 k) x = tripBlock arg1 arg2 arg3 X1 X2 X3 h1 h2 k (fun a => x a.succ) :=
      shapeCast_addUnit_apply (n := 2) ![16, 128] (tripBlock arg1 arg2 arg3 X1 X2 X3 h1 h2 k) shapeCasts_S16x128_S1x16x128 x
    refine hc.trans ((tripBlock_apply arg1 arg2 arg3 X1 X2 X3 h1 h2 k _).trans ?_)
    show patchAt _ _ _ (8 * k.val + (y 2).val % 128 / 16) ((y 1).val % 16) ((y 2).val % 128 % 16) = _
    unfold foldImg
    rw [show 8 * k.val + (y 2).val % 128 / 16 = 32 * ((y 1).val / 16) + (y 2).val / 16 by omega,
      show (y 2).val % 128 % 16 = (y 2).val % 16 by omega]
  · have hne : k.val / 4 ≠ (y 1).val / 16 ∨ k.val % 4 ≠ (y 2).val / 128 := by omega
    rcases hne with hne | hne
    · rw [View.read_writes_cons_unit_of_not_mem arg4.view f (k0_off17_inb k) _ [] y (off17_cases k) 1 (by
        show (y 1).val < 16 * (k.val / 4) ∨ 16 * (k.val / 4) + 16 ≤ (y 1).val; omega)]
      exact hf y (by omega)
    · rw [View.read_writes_cons_unit_of_not_mem arg4.view f (k0_off17_inb k) _ [] y (off17_cases k) 2 (by
        show (y 2).val < 128 * (k.val % 4) ∨ 128 * (k.val % 4) + 128 ≤ (y 2).val; omega)]
      exact hf y (by omega)

/-- What the loop keeps before trip `k`. -/
def Inv (c : Dev nD) (k : ℕ) : sProp (MT nD τ sig Unit (Elt F) ℕ (UR sig nD τ) ℕ) :=
  iprop(∃ f, Held c arg1 arg2 arg3 arg4 X1 X2 X3 f ∗ ⌜Done arg1 arg2 arg3 arg4 X1 X2 X3 k f⌝)

include h1 h2 in
/-- One trip takes what the loop keeps to the next trip. -/
theorem inv_step (𝒱 : Variants) (c : Dev nD) (bd : Option 𝒱.V) (E : Set ℕ) (i : grid0.Coords)
    (harg1 : arg1.IsWhole) (harg2 : arg2.IsWhole) (harg3 : arg3.IsWhole) (harg4 : arg4.IsWhole) (k : Fin k0_t1_loop.trips) :
    Inv arg1 arg2 arg3 arg4 X1 X2 X3 c k.val
      ⊢ wp frame (wpE (defs₀ (F := F)) 𝒱 (c : Thread nD τ) bd) E
          (k0_t1_body (F := F) i arg1 harg1 arg2 harg2 arg3 harg3 arg4 harg4 lanes k PUnit.unit)
          (fun _ => Inv arg1 arg2 arg3 arg4 X1 X2 X3 c (k.val + 1)) := by
  unfold Inv
  iintro ⟨%f, HH, %hf⟩
  iapply (wp_wand_r Idealize.ShloMosaic.frame (wpE (defs₀ (F := F)) 𝒱 (c : Thread nD τ) bd) E)
  isplitl [HH]
  · iapply ((tripRun 𝒱 c bd i arg1 harg1 arg2 harg2 arg3 harg3 arg4 harg4 X1 X2 X3 h1 h2 k).2 E f)
    iexact HH
  · iintro %_ HH
    iexists _
    isplitl [HH]; · iexact HH
    ipureintro
    rw [tripRun_val]
    exact done_step arg1 arg2 arg3 arg4 X1 X2 X3 h1 h2 k f hf

include h1 h2 in
/-- The body run: it leaves the tables and the image as they were and the result made of patches. -/
theorem body_run (𝒱 : Variants) (c : Dev nD) (bd : Option 𝒱.V) (E : Set ℕ) (i : grid0.Coords)
    (harg1 : arg1.IsWhole) (harg2 : arg2.IsWhole) (harg3 : arg3.IsWhole) (harg4 : arg4.IsWhole)
    (f : BufTy.Contents (Elt F) arg4.view.ty) (K : PUnit → sProp (MT nD τ sig Unit (Elt F) ℕ (UR sig nD τ) ℕ)) :
    iprop(Held c arg1 arg2 arg3 arg4 X1 X2 X3 f
        ∗ (∀ g, iprop(Held c arg1 arg2 arg3 arg4 X1 X2 X3 g
            ∗ ⌜arg4.view.read (Elt F) g = foldImg (arg1.view.read (Elt F) X1) (arg2.view.read (Elt F) X2) (arg3.view.read (Elt F) X3)⌝) -∗ K ⟨⟩))
      ⊢ wp frame (wpE (defs₀ (F := F)) 𝒱 (c : Thread nD τ) bd) E
          (cc0__gather_fold_body (F := F) i arg1 harg1 arg2 harg2 arg3 harg3 arg4 harg4) K := by
  rw [cc0__gather_fold_body_eq_skeleton]
  unfold cc0__gather_fold_body_skel
  rw [wp_bind]
  iintro ⟨HH, HK⟩
  iapply (Scf.wp_for frame (wpE (defs₀ (F := F)) 𝒱 (c : Thread nD τ) bd) E k0_t1_loop.lb k0_t1_loop.ub k0_t1_loop.st k0_t1_ok
    PUnit.unit (k0_t1_body (F := F) i arg1 harg1 arg2 harg2 arg3 harg3 arg4 harg4 lanes)
    (fun k _ => Inv arg1 arg2 arg3 arg4 X1 X2 X3 c k)
    (fun k _ => inv_step arg1 arg2 arg3 arg4 X1 X2 X3 h1 h2 𝒱 c bd E i harg1 harg2 harg3 harg4 k))
  isplitl [HH]
  · unfold Inv
    iexists f
    isplitl [HH]; · iexact HH
    ipureintro
    intro y hy
    exact absurd hy (Nat.not_lt_zero _)
  · iintro %_ HI
    unfold Inv
    icases HI with ⟨%g, HH, %hg⟩
    sl_step
    iapply HK
    isplitl [HH]; · iexact HH
    ipureintro
    funext y
    have y1 : (y 1).val < 512 := (y 1).isLt
    have y2 : (y 2).val < 512 := (y 2).isLt
    refine hg y ?_
    show 4 * ((y 1).val / 16) + (y 2).val / 128 < 128
    omega

end Trips

end Cert.KernelIdeal.Fold

end

end
-- ==== Proof.Region.lean ====
module

public import proofs.«01_k».proof.Proof.Body
public import proofs.«01_k».proof.Proof.Gen.KernelIdeal.Launch
public import Idealize.ShloMosaic.Lib.Tactic
public import Idealize.ShloMosaic.Lib.Claim

@[expose] public section

set_option maxRecDepth 16384
set_option maxHeartbeats 1000000

/-! # The kernel's launch

The host operations compute the two tables, then the region runs the body once for each of the three channels: channel `t` of
the image goes in, channel `t` of the result comes out. Everything here is under the hypothesis that the tables' corners lie in
the image, which another module proves. -/

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the region. -/
abbrev stretches : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13]

/-- What a buffer holds when the region is entered. -/
abbrev V (c : Dev nD) (b : Ref sig .tc) : Buf (Elt F) ((c : Thread nD τ).loc b) :=
  StableHlo.after (stretches (F := F)).flatten (fun b => m (c, b)) b

/-- No host operation asks for a fresh value. -/
theorem stretches_fresh : (stretches (F := F)).Forall fun ops => ops.Forall fun op => op.fresh = ∅ := by
  simp only [stretches, List.Forall]; repeat' constructor

/-- Each host operation touches the core's own buffers only. -/
theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub⟩

/-- The program up to the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh main_chain

/-- No host operation writes the image. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, hostOps0_13, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The tables -/

/-- The tables' contents when the region is entered. -/
def tbl : pre0.Contents (Elt F) := fun j => V m (0 : Dev nD) (pre0.ref j)

/-- There is one device, so the tables hold these contents on every device. -/
theorem V_pre (c : Dev nD) (j : Fin 2) : V m c (pre0.ref j) = tbl m j := by
  obtain rfl : c = 0 := Subsingleton.elim _ _; rfl

/-- The buffer of the table of rows, whole. -/
abbrev rowM : Memref sig .tc .smem S1024 .i32 := Memref.whole main_v37
abbrev hrowM : rowM.IsWhole := Memref.isWhole_whole _
/-- The buffer of the table of columns, whole. -/
abbrev colM : Memref sig .tc .smem S1024 .i32 := Memref.whole main_v40
abbrev hcolM : colM.IsWhole := Memref.isWhole_whole _

/-- The table of rows and the table of columns, as the body reads them. -/
def rowTab : S1024.Idx → BitVec 32 := rowM.view.read (Elt F) (tbl m 0)
def colTab : S1024.Idx → BitVec 32 := colM.view.read (Elt F) (tbl m 1)

/-- The corners of the tables lie in the image. -/
def TabsOk : Prop := (∀ i, (rowTab m i).toNat ≤ 2025) ∧ ∀ i, (colTab m i).toNat ≤ 2025

/-- The tables' contents, which no window's place depends on, and the pipeline at them. -/
abbrev adm : (pcfg0 (F := F)).Adm := ⟨tbl m, trivial⟩
abbrev cfgM : Pipeline.Cfg sig Λ₀ := cfg0 (adm m)

abbrev TbBuf (c : Dev nD) {S : Shape} {e : EltTy} (M : Memref sig .tc .smem S e) : Type := Buf (Elt F) (M.view.loc (c : Thread nD τ))
/-- A table held at half share. -/
abbrev tbPt (c : Dev nD) {S : Shape} {e : EltTy} (M : Memref sig .tc .smem S e) (f : TbBuf (F := F) c M) : sProp 𝕄 :=
  M.view.loc (c : Thread nD τ) ↦{fullShare.right} f

/-- What the region hands the body of the tables, table by table. -/
theorem PhiT_eq (c : Dev nD) :
    (Pipeline.ΦT pre0 (tbl m) c : sProp 𝕄) = iprop(tbPt c rowM (tbl m 0) ∗ tbPt c colM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks and the proof data -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- What the body leaves in the result's block at point `t`. -/
def oblk (c : Dev nD) (t : Fin (cfgM m).N) : S1x512x512.Idx → F .f32 := foldImg (rowTab m) (colTab m) (iblk m c 0 t)

/-- The proof data of the pipeline on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => oblk m c t
  Φ _ := iprop(Pipeline.ΦA spec0 c ∗ Pipeline.ΦT pre0 (tbl m) c)
  q _ := fullShare
  owed _ := 0

/-- Each array at the start is what the host operations left. -/
theorem A_eq (c : Dev nD) (w : Fin (cfgM m).W) : (dats m 0 c).A w = V m c (Pipeline.arrRef spec0 w) := by
  dsimp only [dats]

/-- The body leaves the image's block. -/
theorem after0_0 (c : Dev nD) (t : Fin (cfgM m).N) : (dats m 0 c).after 0 t = iblk m c 0 t := by dsimp only [dats]; try rfl

/-- The body leaves the folded patches in the result's block. -/
theorem after0_1 (c : Dev nD) (t : Fin (cfgM m).N) : (dats m 0 c).after 1 t = oblk m c t := by dsimp only [dats]; try rfl

/-- The image's staging buffer holds the channel's block at every point. -/
theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- The staging buffers at point `t`. -/
abbrev ms0_0 (t : Fin (cfgM m).N) : Memref sig .tc .vmem S1x2048x2048 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x512x512 .f32 := spec0_1.stage ((cfgM m).slots t 1)
abbrev hs0_1 (t : Fin (cfgM m).N) : (ms0_1 m t).IsWhole := hstage0_1 (((cfgM m).slots t 1).cast nbuf0_1)

/-- The body at point `t`, on what the pipeline calls it with. -/
abbrev bodyAt0 (t : Fin (cfgM m).N) : Prog (TpuEff nD τ sig (Elt F) Λ₀ .tc) PUnit :=
  cc0__gather_fold_body (grid0.coords t) rowM hrowM colM hcolM (ms0_0 m t) (hs0_0 m t) (ms0_1 m t) (hs0_1 m t)

/-! ## The body obligation -/

/-- A table whose entries lie in range gives words in range. -/
theorem inRange_of (a : Memref sig .tc .smem S1024 .i32) (X : BufTy.Contents (Elt F) a.view.ty)
    (h : ∀ i : S1024.Idx, BitVec.toNat (a.view.read (Elt F) X i) ≤ 2025) : InRange a X := fun o ho => by
  rw [word_eq]; exact h _

/-- A table's buffer is its memref's. -/
theorem tbPt_eq (c : Dev nD) {S : Shape} {e : EltTy} (M : Memref sig .tc .smem S e) (hM : M.IsWhole) (f : TbBuf (F := F) c M) :
    tbPt c M f = iprop(M.view.loc (c : Thread nD τ) ↦[M.view.set]{fullShare.right} f) := by
  unfold tbPt; rw [hM.set_eq_univ]

/-- The body on whole staging buffers: the image stays, the result's buffer ends with the folded patches. -/
theorem body_triple (c : Dev nD) (i : grid0.Coords) (arg1 : Memref sig .tc .smem S1024 .i32) (harg1 : arg1.IsWhole)
    (arg2 : Memref sig .tc .smem S1024 .i32) (harg2 : arg2.IsWhole) (arg3 : Memref sig .tc .vmem S1x2048x2048 .f32) (harg3 : arg3.IsWhole)
    (arg4 : Memref sig .tc .vmem S1x512x512 .f32) (harg4 : arg4.IsWhole) (x0 : Vec F S1x2048x2048 .f32)
    (xt0 : TbBuf (F := F) c arg1) (xt1 : TbBuf (F := F) c arg2) (h1 : InRange arg1 xt0) (h2 : InRange arg2 xt1)
    (E : Set ℕ) (K : PUnit → sProp 𝕄) :
    iprop(owns (c : Thread nD τ) arg3 fullShare x0 ∗ (∃ d, owns (c : Thread nD τ) arg4 fullShare d)
        ∗ tbPt c arg1 xt0 ∗ tbPt c arg2 xt1
        ∗ (iprop(owns (c : Thread nD τ) arg3 fullShare x0
            ∗ owns (c : Thread nD τ) arg4 fullShare (foldImg (arg1.view.read (Elt F) xt0) (arg2.view.read (Elt F) xt1) x0)
            ∗ tbPt c arg1 xt0 ∗ tbPt c arg2 xt1) -∗ K ⟨⟩))
      ⊢ wp frame (wpE (defs₀ (F := F)) Variants.none c none) E (cc0__gather_fold_body i arg1 harg1 arg2 harg2 arg3 harg3 arg4 harg4) K := by
  rw [tbPt_eq c arg1 harg1, tbPt_eq c arg2 harg2]
  unfold owns
  iintro ⟨⟨%f0, %hf0, H0⟩, ⟨%d1, %f1, -, H1⟩, HT0, HT1, Hk⟩
  obtain rfl := harg3.eq_unread hf0
  iapply (body_run arg1 arg2 arg3 arg4 xt0 xt1 _ h1 h2 Variants.none c none E i harg1 harg2 harg3 harg4 f1 K)
  isplitl [H0 H1 HT0 HT1]
  · isplitl [HT0]; · iexact HT0
    isplitl [HT1]; · iexact HT1
    isplitl [H0]; · iexact H0
    iexact H1
  iintro %g ⟨⟨HT0, HT1, H0, H1⟩, %hg⟩
  iapply Hk
  isplitl [H0]
  · iexists _; isplitr; · ipureintro; exact harg3.read_unread _
    iexact H0
  isplitl [H1]
  · iexists _; isplitr; swap; · iexact H1
    ipureintro
    rw [hg, harg3.read_unread]
  isplitl [HT0]; · iexact HT0
  iexact HT1

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

/-- The body at a point, from what the pipeline hands it to what the pipeline takes back. -/
theorem sound_body (hT : TabsOk m) (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩⟩
  iapply (body_triple c (grid0.coords t) rowM hrowM colM hcolM _ _ _ _ (iblk m c 0 t) (tbl m 0) (tbl m 1) (inRange_of _ _ hT.1) (inRange_of _ _ hT.2) Set.univ _)
  isplitl [H0]; · iexact H0
  isplitl [H1]; · iexists _; iexact H1
  isplitl [HT0]; · iexact HT0
  isplitl [HT1]; · iexact HT1
  iintro ⟨H0, H1, HT0, HT1⟩
  isplitl [HΦ HT0 HT1]
  · isplitl [HΦ]
    · iexact HΦ
    isplitl [HT0]; · iexact HT0
    iexact HT1
  isplitl [Ho]; · iexact Ho
  isplitl [H0]; · iexact H0
  iexact H1

/-- The body table's row at point `t`'s slots is the body. -/
theorem defs₀_row (t : Fin (cfgM m).N) :
    defs₀ (F := F) .tc (cfgM m).body ((cfgM m).bodyArgs t ((cfgM m).slots t)) = bodyAt0 m t := by
  unfold defs₀; rw [Defs.onTc_tc]

/-- The body obligation at every point. -/
theorem body_obligation (hT : TabsOk m) (c : Dev nD) :
    BodyObligation (dats (F := F) m 0 c) (defs₀ (F := F)) Variants.none () Set.univ := fun t => by
  rw [bigSep_W0, bigSep_W0, defs₀_row m]
  exact triple_restated (sound_body m hT c t) rfl .rfl fun _ => .rfl

/-! ## The run -/

set_option backward.isDefEq.respectTransparency.types false in
/-- The run: the arrays end as the proof data says, every other buffer as the region found it, every counter at zero. -/
theorem run_main (hT : TabsOk m) : θ_run defs (onTc (τ := τ) (main (F := F))) (s₀ m ρ) (fun r =>
    Pipeline.FramePost (Pipeline.pin pcfgs fun _ => adm m) (dats m) (0 : Fin 1) (V m) r ∧ r.2.sem = fun _ => 0) :=
  Pipeline.θ_run_frameP (Q' := _) pcfgs (fun _ => adm m) (dats m) (0 : Fin 1) launch0 defs₀ Variants.none m ρ main
    (hbody := fun c => (body_obligation m hT c).loose) (hshare := fun c => (dats m 0 c).share_full fun _ => rfl)
    (howed := fun _ _ => rfl) (V := V m) (hmain := hmain m Variants.none) (hA := A_eq m) (hpf := V_pre m) (hΦ := fun _ _ => rfl)

end Cert.KernelIdeal.Fold

end

end
-- ==== Proof.Prefix.lean ====
module

public import proofs.«01_k».proof.Proof.Region
public import Idealize.ShloMosaic.Lib.StableHlo.Run

@[expose] public section

set_option maxRecDepth 16384
set_option maxHeartbeats 2000000

/-! # What the host operations before the region leave

The host pads the image's luminance, forms the running sums of it and of its square, takes from them the deviation of each of the
`226 × 226` patches, sorts the patches by deviation, and keeps the corners of the first `1024`. Each step is a function here, and
the buffers the region reads hold their composition. -/

noncomputable section

namespace Cert.KernelIdeal.Fold

open Idealize.ShloMosaic Idealize.ShloMosaic.TcCoe
open Idealize.ShloMosaic.StableHlo
open Cert.KernelIdeal Cert.KernelIdeal.Gen

variable {F : FTy → Type} [FloatOps F]

/-- The image's luminance, a column of zeros on either side. -/
def padded (x : S3x2048x2048.Idx → F .f32) : S2048x2050.Idx → F .f32 :=
  pad S2048x2050 ![0, 1] ![0, 1] ![0, 0]
    (Host.reduceAdd (mulf (broadcastInDim S3x2048x2048 ![0, 1, 2] bcast_S3x1x1_S3x2048x2048_0_1_2
        (shapeCast S3x1x1 (fun i => FloatOps.ofBits .f32 (lit0 (S3.rowMajor i))) shapeCasts_S3_S3x1x1)) x)
      (constant S_ .f32 0x00000000#32) reducesTo_S3x2048x2048_S2048x2048_d0 h_S_)
    (sitofp .f32 (constantI S_ 32 0#32)) pads_S2048x2048_S2048x2050_000_110 h_S_

/-- The running sums down the rows, then along the columns. -/
def sums (y : S2048x2050.Idx → F .f32) : S2048x2050.Idx → F .f32 :=
  Host.reduceWindowAdd ![1, 2050] ![1, 1] ![0, 2049] ![0, 0]
    (Host.reduceWindowAdd ![2048, 1] ![1, 1] ![2047, 0] ![0, 0] y (broadcastInDim S_ ![] bcast_S_S_ (constant S_ .f32 0x00000000#32))
      reduceWindows_S2048x2050_S2048x2050_w2048s1p2047_0_w1s1p0_0 h_S_)
    (broadcastInDim S_ ![] bcast_S_S_ (constant S_ .f32 0x00000000#32)) reduceWindows_S2048x2050_S2048x2050_w1s1p0_0_w2050s1p2049_0 h_S_

/-- The sum over each patch, from the running sums at the patch's four corners. -/
def boxes (s : S2048x2050.Idx → F .f32) : S51076.Idx → F .f32 :=
  shapeCast S51076 (subf (subf (addf (Host.slice S226x226 ![16, 16] ![9, 9] s slicesBy_S2048x2050_S226x226_16s9_16s9)
      (Host.slice S226x226 ![0, 0] ![9, 9] s slicesBy_S2048x2050_S226x226_0s9_0s9))
    (Host.slice S226x226 ![0, 16] ![9, 9] s slicesBy_S2048x2050_S226x226_0s9_16s9))
    (Host.slice S226x226 ![16, 0] ![9, 9] s slicesBy_S2048x2050_S226x226_16s9_0s9)) shapeCasts_S226x226_S51076

/-- The deviations, from the patches' sums `b1` and sums of squares `b2`. -/
def spread (b1 b2 : S51076.Idx → F .f32) : S51076.Idx → F .f32 :=
  Host.sqrt (Host.divf (subf b2 (Host.divf (mulf b1 b1) (broadcastInDim S51076 ![] bcast_S_S51076 (constant S_ .f32 0x43800000#32))))
    (broadcastInDim S51076 ![] bcast_S_S51076 (constant S_ .f32 0x43800000#32)))

/-- The patches in order of deviation, the first `1024` of them. -/
def chosen (s : S51076.Idx → F .f32) : S1024.Idx → BitVec 32 :=
  extractStridedSlice S1024 ![0] (Host.sort2 S51076 0 comparator_f32_i32_d0 s (iotaInDim S51076 32 0)).2 slices_S51076_S1024_0

/-- The number of patches along an axis, as a word. -/
abbrev word226 : S_.Idx → BitVec 32 := constantI S_ 32 226#32
/-- A word repeated for every tile. -/
abbrev along (x : S_.Idx → BitVec 32) : S1024.Idx → BitVec 32 := broadcastInDim S1024 ![] bcast_S_S1024 x

/-- The quotients by `226`, rounded down. -/
def quots (o : S1024.Idx → BitVec 32) : S1024.Idx → BitVec 32 :=
  select (andi (cmpi .ne (signi o) (along (signi word226))) (cmpi .ne (Host.remsi o (along word226)) (along (constantI S_ 32 0#32))))
    (subi (Host.divsi o (along word226)) (along (constantI S_ 32 1#32))) (Host.divsi o (along word226))

/-- The divisor of the remainders: one in place of zero. -/
abbrev div226 : S_.Idx → BitVec 32 := select (cmpi .eq word226 (constantI S_ 32 0#32)) (constantI S_ 32 1#32) word226

/-- The remainders by `226`, of the divisor's sign. -/
def rems (o : S1024.Idx → BitVec 32) : S1024.Idx → BitVec 32 :=
  select (andi (cmpi .ne (cmpi .slt (Host.remsi o (along div226)) (along (constantI S_ 32 0#32)))
        (broadcastInDim S1024 ![] bcast_S_S1024 (cmpi .slt div226 (constantI S_ 32 0#32))))
      (cmpi .ne (Host.remsi o (along div226)) (along (constantI S_ 32 0#32))))
    (addi (Host.remsi o (along div226)) (along div226)) (Host.remsi o (along div226))

/-- The corners' rows. -/
def rowsOf (o : S1024.Idx → BitVec 32) : S1024.Idx → BitVec 32 := muli (quots o) (along (constantI S_ 32 9#32))
/-- The corners' columns. -/
def colsOf (o : S1024.Idx → BitVec 32) : S1024.Idx → BitVec 32 := muli (rems o) (along (constantI S_ 32 9#32))

/-! ## Reading the stretches -/

variable (W : Valuation τ sig (Elt F))

/-- The operations up to the running sums. -/
abbrev part1 : List (HloOp τ sig (Elt F)) :=
  hostOps0 ++ (hostOps0_1 ++ (hostOps0_2 ++ (hostOps0_3 ++ (hostOps0_4 ++ (hostOps0_5 ++ hostOps0_6)))))

/-- The running sums of the luminance. -/
theorem part1_v6 : after (part1 (F := F)) W (Proc.devRef .tc main_v6) = sums (padded (W (Proc.devRef .tc main_arg0))) := by
  simp only [part1, hostOps0, hostOps0_1, hostOps0_2, hostOps0_3, hostOps0_4, hostOps0_5, hostOps0_6, List.cons_append, List.nil_append,
    TRef.binary, TRef.nullary, TRef.unary, TRef.toBuf, TRef.ofBuf, cast_eq]
  after_results_simp
  rfl

/-- The running sums of its square. -/
theorem part1_v9 : after (part1 (F := F)) W (Proc.devRef .tc main_v9)
    = sums (mulf (padded (W (Proc.devRef .tc main_arg0))) (padded (W (Proc.devRef .tc main_arg0)))) := by
  simp only [part1, hostOps0, hostOps0_1, hostOps0_2, hostOps0_3, hostOps0_4, hostOps0_5, hostOps0_6, List.cons_append, List.nil_append,
    TRef.binary, TRef.nullary, TRef.unary, TRef.toBuf, TRef.ofBuf, cast_eq]
  after_results_simp
  rfl

/-- The deviations, from the running sums. -/
theorem part2_v32 : after (hostOps0_7 (F := F)) W (Proc.devRef .tc main_v32)
    = spread (boxes (W (Proc.devRef .tc main_v6))) (boxes (W (Proc.devRef .tc main_v9))) := by
  simp only [hostOps0_7]
  after_results_simp
  rfl

/-- The patches chosen, from the deviations. -/
theorem part3_v34 : after (hostOps0_8 ++ hostOps0_9 : List (HloOp τ sig (Elt F))) W (Proc.devRef .tc main_v34)
    = chosen (W (Proc.devRef .tc main_v32)) := by
  simp only [hostOps0_8, hostOps0_9, List.cons_append, List.nil_append, TRef.binary, TRef.nullary, TRef.unary, TRef.toBuf, TRef.ofBuf, cast_eq]
  after_results_simp
  rfl

/-- The divisor of the rows. -/
theorem part3_c3 : after (hostOps0_8 ++ hostOps0_9 : List (HloOp τ sig (Elt F))) W (Proc.devRef .tc main_c_3) = word226 := by
  simp only [hostOps0_8, hostOps0_9, List.cons_append, List.nil_append, TRef.binary, TRef.nullary, TRef.unary, TRef.toBuf, TRef.ofBuf, cast_eq]
  after_results_simp
  try rfl

/-- The corners' rows, from the patches chosen. -/
theorem part4_v37 (h : W (Proc.devRef .tc main_c_3) = word226) :
    after (hostOps0_10 ++ hostOps0_11 : List (HloOp τ sig (Elt F))) W (Proc.devRef .tc main_v37) = rowsOf (W (Proc.devRef .tc main_v34)) := by
  simp only [hostOps0_10, hostOps0_11, List.cons_append, List.nil_append, TRef.binary, TRef.nullary, TRef.unary, TRef.ternary, TRef.toBuf,
    TRef.ofBuf, cast_eq]
  after_results_simp
  rw [h]
  rfl

/-- The patches chosen are kept. -/
theorem part4_v34 : after (hostOps0_10 ++ hostOps0_11 : List (HloOp τ sig (Elt F))) W (Proc.devRef .tc main_v34) = W (Proc.devRef .tc main_v34) := by
  simp only [hostOps0_10, hostOps0_11, List.cons_append, List.nil_append, TRef.binary, TRef.nullary, TRef.unary, TRef.ternary, TRef.toBuf,
    TRef.ofBuf, cast_eq]
  after_results_simp

/-- The divisor of the columns. -/
theorem part4_c5 : after (hostOps0_10 ++ hostOps0_11 : List (HloOp τ sig (Elt F))) W (Proc.devRef .tc main_c_5) = word226 := by
  simp only [hostOps0_10, hostOps0_11, List.cons_append, List.nil_append, TRef.binary, TRef.nullary, TRef.unary, TRef.ternary, TRef.toBuf,
    TRef.ofBuf, cast_eq]
  after_results_simp
  try rfl

/-- The corners' rows are kept. -/
theorem part5_v37 : after (hostOps0_12 ++ hostOps0_13 : List (HloOp τ sig (Elt F))) W (Proc.devRef .tc main_v37) = W (Proc.devRef .tc main_v37) := by
  simp only [hostOps0_12, hostOps0_13, List.cons_append, List.nil_append, TRef.binary, TRef.nullary, TRef.unary, TRef.ternary, TRef.toBuf,
    TRef.ofBuf, cast_eq]
  after_results_simp

/-- The corners' columns, from the patches chosen. -/
theorem part5_v40 (h : W (Proc.devRef .tc main_c_5) = word226) :
    after (hostOps0_12 ++ hostOps0_13 : List (HloOp τ sig (Elt F))) W (Proc.devRef .tc main_v40) = colsOf (W (Proc.devRef .tc main_v34)) := by
  simp only [hostOps0_12, hostOps0_13, List.cons_append, List.nil_append, TRef.binary, TRef.nullary, TRef.unary, TRef.ternary, TRef.toBuf,
    TRef.ofBuf, cast_eq]
  after_results_simp
  rw [h]
  rfl

/-- The stretches, cut in five. -/
theorem after_stretches : after (stretches (F := F)).flatten W
    = after (hostOps0_12 ++ hostOps0_13) (after (hostOps0_10 ++ hostOps0_11) (after (hostOps0_8 ++ hostOps0_9)
        (after hostOps0_7 (after (part1 (F := F)) W)))) := by
  simp only [stretches, part1, List.flatten_cons, List.flatten_nil, List.append_nil, after_append]

/-- The patches chosen for the image `x`. -/
def pick (x : S3x2048x2048.Idx → F .f32) : S1024.Idx → BitVec 32 :=
  chosen (spread (boxes (sums (padded x))) (boxes (sums (mulf (padded x) (padded x)))))

/-- The table of rows at the region, from the image. -/
theorem prefix_v37 : after (stretches (F := F)).flatten W (Proc.devRef .tc main_v37) = rowsOf (pick (W (Proc.devRef .tc main_arg0))) := by
  rw [after_stretches, part5_v37, part4_v37 _ (part3_c3 _), part3_v34, part2_v32, part1_v6, part1_v9]
  rfl

/-- The table of columns at the region, from the image. -/
theorem prefix_v40 : after (stretches (F := F)).flatten W (Proc.devRef .tc main_v40) = colsOf (pick (W (Proc.devRef .tc main_arg0))) := by
  rw [after_stretches, part5_v40 _ (part4_c5 _), part4_v34, part3_v34, part2_v32, part1_v6, part1_v9]
  rfl

end Cert.KernelIdeal.Fold

end
-- ==== Proof.Order.lean ====
module

public import proofs.«01_k».proof.Proof.Prefix
public import Idealize.ShloMosaic.Lib.Routing.Words

@[expose] public section

set_option maxRecDepth 16384
set_option maxHeartbeats 1000000

/-! # The corners lie in the image

Whatever the deviations are, a sort only permutes the patches' numbers, so each number chosen is below `226 * 226`, and its corner is
at row `9 (k / 226)` and column `9 (k % 226)`, both at most `2025`. -/

noncomputable section

namespace Cert.KernelIdeal.Fold

open Idealize.ShloMosaic Idealize.ShloMosaic.TcCoe Idealize.ShloMosaic.ValueIdx
open Cert.KernelIdeal Cert.KernelIdeal.Gen

variable {F : FTy → Type} [FloatOps F]

/-- The patch that stands at place `i` in order of deviation. -/
def patchNo (s : S51076.Idx → F .f32) (i : S1024.Idx) : ℕ := (chosen s i).toNat

/-- The number of a patch is below the number of patches, and is the word chosen. -/
theorem chosen_word (s : S51076.Idx → F .f32) (i : S1024.Idx) :
    patchNo s i < 51076 ∧ chosen s i = BitVec.ofNat 32 (patchNo s i) := by
  have h : ∃ k : Fin 51076, chosen s i = BitVec.ofNat 32 k.val := by
    unfold chosen
    rw [Host.sort2]
    exact ⟨_, rfl⟩
  obtain ⟨k, hk⟩ := h
  unfold patchNo
  rw [hk, BitVec.toNat_ofNat]
  have := k.isLt
  rw [Nat.mod_eq_of_lt (by omega)]
  exact ⟨this, rfl⟩

/-- A word below `2^31` has the quotient of its number. -/
theorem quots_apply (o : S1024.Idx → BitVec 32) (i : S1024.Idx) {k : ℕ} (h : o i = BitVec.ofNat 32 k) (hk : k < 2 ^ 31) :
    quots o i = BitVec.ofNat 32 (k / 226) :=
  Routing.pyDiv_ap (s := S1024) bcast_S_S1024 o word226 i h rfl hk (by decide) (by decide)

/-- And the remainder of its number. -/
theorem rems_apply (o : S1024.Idx → BitVec 32) (i : S1024.Idx) {k : ℕ} (h : o i = BitVec.ofNat 32 k) (hk : k < 2 ^ 31) :
    rems o i = BitVec.ofNat 32 (k % 226) :=
  Routing.pyRem_ap (s := S1024) bcast_S_S1024 o word226 i h rfl hk (by decide) (by decide)

/-- The corner's row. -/
theorem rowsOf_apply (o : S1024.Idx → BitVec 32) (i : S1024.Idx) {k : ℕ} (h : o i = BitVec.ofNat 32 k) (hk : k < 2 ^ 31) :
    rowsOf o i = BitVec.ofNat 32 (k / 226 * 9) := by
  show quots o i * 9#32 = _
  rw [quots_apply o i h hk, BitVec.ofNat_mul]

/-- The corner's column. -/
theorem colsOf_apply (o : S1024.Idx → BitVec 32) (i : S1024.Idx) {k : ℕ} (h : o i = BitVec.ofNat 32 k) (hk : k < 2 ^ 31) :
    colsOf o i = BitVec.ofNat 32 (k % 226 * 9) := by
  show rems o i * 9#32 = _
  rw [rems_apply o i h hk, BitVec.ofNat_mul]

variable (m : (ℓ : Loc nD τ sig) → Buf (Elt F) ℓ)

/-- The image the launch finds. -/
def image : S3x2048x2048.Idx → F .f32 := m (((0 : Dev nD) : Thread nD τ).loc main_arg0)

/-- The table of rows is computed from the order. -/
theorem rowTab_eq : rowTab m = rowsOf (pick (image m)) :=
  (by unfold rowTab tbl; rfl : rowTab m = V m 0 main_v37).trans (prefix_v37 _)

/-- The table of columns is computed from the order. -/
theorem colTab_eq : colTab m = colsOf (pick (image m)) :=
  (by unfold colTab tbl; rfl : colTab m = V m 0 main_v40).trans (prefix_v40 _)

/-- The number of the patch chosen for place `i` of the result. -/
def pickNo (x : S3x2048x2048.Idx → F .f32) (i : S1024.Idx) : ℕ := (pick x i).toNat

/-- A chosen number is that of a patch, and is the word at its place. -/
theorem pick_word (x : S3x2048x2048.Idx → F .f32) (i : S1024.Idx) : pickNo x i < 51076 ∧ pick x i = BitVec.ofNat 32 (pickNo x i) :=
  chosen_word _ i

/-- The row that the table gives for a tile. -/
theorem rowTab_apply (i : S1024.Idx) : (rowTab m i).toNat = pickNo (image m) i / 226 * 9 := by
  obtain ⟨h, e⟩ := pick_word (image m) i
  rw [rowTab_eq, rowsOf_apply _ i e (by omega), BitVec.toNat_ofNat, Nat.mod_eq_of_lt (by omega)]

/-- The column that the table gives for a tile. -/
theorem colTab_apply (i : S1024.Idx) : (colTab m i).toNat = pickNo (image m) i % 226 * 9 := by
  obtain ⟨h, e⟩ := pick_word (image m) i
  rw [colTab_eq, colsOf_apply _ i e (by omega), BitVec.toNat_ofNat, Nat.mod_eq_of_lt (by omega)]

/-- The tables' corners lie in the image. -/
theorem tabsOk : TabsOk m := by
  refine ⟨fun i => ?_, fun i => ?_⟩
  · have h := (pick_word (image m) i).1
    rw [rowTab_apply]; omega
  · rw [colTab_apply]; omega

end Cert.KernelIdeal.Fold

end
-- ==== Proof.RefOrder.lean ====
module

public import proofs.«01_k».proof.Proof.RefGather
public import proofs.«01_k».proof.Proof.Order

@[expose] public section

set_option maxRecDepth 16384
set_option maxHeartbeats 1000000

/-! # The reference orders the patches as the kernel does

The reference takes the running sums at the four corners of each patch by index words, the kernel by strided slices: the same
elements, so the same sums, deviations and order. -/

noncomputable section

namespace Cert.ReferenceIdeal.Fold

open Idealize.ShloMosaic Idealize.ShloMosaic.TcCoe Idealize.ShloMosaic.ValueIdx
open Cert.ReferenceIdeal Cert.ReferenceIdeal.Gen Cert.ReferenceIdeal.Value
open Cert.KernelIdeal.Fold (padded sums boxes spread chosen pick pickNo)

variable {F : FTy → Type} [FloatOps F]
variable (V0 : Valuation τ sig (Elt F))

/-- The word at position `q` of the corners along one axis. -/
theorem corner_word (q : Fin 226) :
    (addi (broadcastInDim S226 ![] bcast_S_S226 (constantI S_ 32 0#32))
      (muli (broadcastInDim S226 ![] bcast_S_S226 (constantI S_ 32 9#32)) (iotaInDim S226 32 0)) : S226.Idx → BitVec 32) (ix1 q)
      = BitVec.ofNat 32 (9 * q.val) := by
  show 0#32 + 9#32 * BitVec.ofNat 32 q.val = _
  rw [BitVec.ofNat_mul, BitVec.zero_add]

/-- The place of patch `j` in the square of patches. -/
theorem square_place (j : Fin 51076) :
    (S226x226.rowMajor (ix2 (⟨j.val / 226, by omega⟩ : Fin 226) (⟨j.val % 226, by omega⟩ : Fin 226))).val = (S51076.rowMajor (ix1 j)).val := by
  rw [Shape.rowMajor_val_two, Shape.rowMajor_val_one]
  show j.val / 226 * 226 + j.val % 226 = j.val
  omega

/-- The first row of patch `j`. -/
theorem top_apply (j : Fin 51076) : res_main_v21 V0 (ix1 j) = BitVec.ofNat 32 (9 * (j.val / 226)) := by
  unfold res_main_v21
  refine (shapeCast_apply _ _ (ix1 j) _ (square_place j)).trans ?_
  refine (broadcastInDim_apply _ _ _ _ (ix1 (⟨j.val / 226, by omega⟩ : Fin 226)) (fun b => by fin_cases b; rfl)).trans ?_
  exact corner_word _

/-- The first column of patch `j`. -/
theorem left_apply (j : Fin 51076) : res_main_v24 V0 (ix1 j) = BitVec.ofNat 32 (9 * (j.val % 226)) := by
  unfold res_main_v24
  refine (shapeCast_apply _ _ (ix1 j) _ (square_place j)).trans ?_
  refine (broadcastInDim_apply _ _ _ _ (ix2 (0 : Fin 1) (⟨j.val % 226, by omega⟩ : Fin 226)) (fun b => by fin_cases b <;> rfl)).trans ?_
  refine (shapeCast_apply _ _ _ (ix1 (⟨j.val % 226, by omega⟩ : Fin 226)) ?_).trans (corner_word _)
  rw [Shape.rowMajor_val_two, Shape.rowMajor_val_one]
  show j.val % 226 = 0 * 226 + j.val % 226
  omega

/-- The row past patch `j`. -/
theorem bottom_apply (j : Fin 51076) : res_main_v26 V0 (ix1 j) = BitVec.ofNat 32 (9 * (j.val / 226) + 16) := by
  unfold res_main_v26
  exact (congrArg (fun w : BitVec 32 => w + 16#32) (top_apply V0 j)).trans (BitVec.ofNat_add _ 16).symm

/-- The column past patch `j`. -/
theorem right_apply (j : Fin 51076) : res_main_v28 V0 (ix1 j) = BitVec.ofNat 32 (9 * (j.val % 226) + 16) := by
  unfold res_main_v28
  exact (congrArg (fun w : BitVec 32 => w + 16#32) (left_apply V0 j)).trans (BitVec.ofNat_add _ 16).symm

/-- The elements of a table that a row word and a column word name, patch by patch. -/
abbrev takePair {α : Type} (s : S2048x2050.Idx → α) (r c : S51076.Idx → BitVec 32) : S51076.Idx → α :=
  Host.gather gather_S2048x2050_S51076x2_S51076_n_01_n_n_01_1_11 s (pairs r c)

/-- The sum over each patch, as the reference takes it from running sums. -/
def corners (s : S2048x2050.Idx → F .f32) : S51076.Idx → F .f32 :=
  subf (subf (addf (takePair s (res_main_v26 V0) (res_main_v28 V0)) (takePair s (res_main_v21 V0) (res_main_v24 V0)))
    (takePair s (res_main_v21 V0) (res_main_v28 V0))) (takePair s (res_main_v26 V0) (res_main_v24 V0))

/-- It is the kernel's. -/
theorem corners_eq (s : S2048x2050.Idx → F .f32) : corners V0 s = boxes s := by
  funext i
  obtain ⟨j, rfl⟩ : ∃ j : Fin 51076, i = ix1 j := ⟨i 0, by funext a; fin_cases a; rfl⟩
  unfold boxes
  refine Eq.trans ?_ (shapeCast_apply _ _ (ix1 j) _ (square_place j)).symm
  have hj := j.isLt
  have slice_place : ∀ (u v : ℕ) (h : Shape.SlicesBy S2048x2050 ![u, v] ![9, 9] S226x226) (a b : ℕ) (ha : a < 2048) (hb : b < 2050)
      (hu : u + 9 * (j.val / 226) = a) (hv : v + 9 * (j.val % 226) = b),
      s (ix2 ⟨a, ha⟩ ⟨b, hb⟩) = Host.slice S226x226 ![u, v] ![9, 9] s h (ix2 (⟨j.val / 226, by omega⟩ : Fin 226) (⟨j.val % 226, by omega⟩ : Fin 226)) := by
    intro u v h a b ha hb hu hv
    unfold Host.slice
    refine congrArg s (funext fun e => Fin.ext ?_)
    fin_cases e
    · exact hu.symm
    · exact hv.symm
  refine congrArg₂ FloatOps.subf (congrArg₂ FloatOps.subf (congrArg₂ FloatOps.addf ?_ ?_) ?_) ?_
  · exact (gatherPair_apply s _ _ j (by omega) (by omega) (bottom_apply V0 j) (right_apply V0 j)).trans (slice_place 16 16 _ _ _ _ _ (by omega) (by omega))
  · exact (gatherPair_apply s _ _ j (by omega) (by omega) (top_apply V0 j) (left_apply V0 j)).trans (slice_place 0 0 _ _ _ _ _ (by omega) (by omega))
  · exact (gatherPair_apply s _ _ j (by omega) (by omega) (top_apply V0 j) (right_apply V0 j)).trans (slice_place 0 16 _ _ _ _ _ (by omega) (by omega))
  · exact (gatherPair_apply s _ _ j (by omega) (by omega) (bottom_apply V0 j) (left_apply V0 j)).trans (slice_place 16 0 _ _ _ _ _ (by omega) (by omega))

/-- The image the reference is given. -/
abbrev imageR : S3x2048x2048.Idx → F .f32 := V0 (Proc.devRef .tc main_arg0)

/-- The reference's padded luminance is the kernel's. -/
theorem padded_eq : res_main_v4 V0 = padded (imageR V0) := rfl

/-- So are its running sums, -/
theorem sums_eq : res_main_v6 V0 = sums (padded (imageR V0)) := rfl

/-- and those of its square. -/
theorem squares_eq : res_main_v9 V0 = sums (mulf (padded (imageR V0)) (padded (imageR V0))) := rfl

/-- The sums over the patches are taken at the corners. -/
theorem sum_corners : res_main_v87 V0 = corners V0 (res_main_v6 V0) := rfl

/-- The deviations are those of the sums and the sums of squares. -/
theorem spread_corners : res_main_v153 V0 = spread (res_main_v87 V0) (corners V0 (res_main_v9 V0)) := rfl

/-- The reference's deviations are the kernel's. -/
theorem spread_eq : res_main_v153 V0
    = spread (boxes (sums (padded (imageR V0)))) (boxes (sums (mulf (padded (imageR V0)) (padded (imageR V0))))) := by
  rw [spread_corners, sum_corners, corners_eq, corners_eq, sums_eq, squares_eq]

/-- The order is by deviation. -/
theorem chosen_form : res_main_v155 V0 = chosen (res_main_v153 V0) := rfl

/-- The reference chooses the patches the kernel does. -/
theorem order_eq : res_main_v155 V0 = pick (imageR V0) := by
  rw [chosen_form, spread_eq]; rfl

/-- The reference's row of the corner chosen for a tile. -/
theorem row_apply (p : Fin 1024) : res_main_v162 V0 (ix1 p) = BitVec.ofNat 32 (pickNo (imageR V0) (ix1 p) / 226 * 9) := by
  obtain ⟨hk, he⟩ := Cert.KernelIdeal.Fold.pick_word (imageR V0) (ix1 p)
  rw [show res_main_v162 V0 = taken (res_main_v21 V0) (res_main_v155 V0) from rfl, order_eq, taken_apply _ _ p hk he, top_apply, Nat.mul_comm]

/-- The reference's column of the corner chosen for a tile. -/
theorem col_apply (p : Fin 1024) : res_main_v169 V0 (ix1 p) = BitVec.ofNat 32 (pickNo (imageR V0) (ix1 p) % 226 * 9) := by
  obtain ⟨hk, he⟩ := Cert.KernelIdeal.Fold.pick_word (imageR V0) (ix1 p)
  rw [show res_main_v169 V0 = taken (res_main_v24 V0) (res_main_v155 V0) from rfl, order_eq, taken_apply _ _ p hk he, left_apply, Nat.mul_comm]

end Cert.ReferenceIdeal.Fold
-- ==== Proof.SameProgram.lean ====
/- The two printings of the kernel, at words and at extended reals, are one program: the same claim of either. -/
module

public import proofs.«01_k».proof.Defs
public import proofs.«01_k».proof.Proof.Gen.Kernel
public import proofs.«01_k».proof.Proof.Gen.KernelIdeal
public import Idealize.ShloMosaic.Lib.Pipeline.Regions

@[expose] public section

namespace Cert.Proof

open Idealize.ShloMosaic Idealize.ShloMosaic.TcCoe

/-- The frame claim of the kernel printed for reading at extended reals, at any reading of the floats. -/
def FrameAt (F : FTy → Type) [FloatOps F] : Prop :=
  letI := Cert.KernelIdeal.Gen.facts
  ∀ (m : (ℓ : Loc Cert.KernelIdeal.nD Cert.KernelIdeal.τ Cert.KernelIdeal.sig) → Buf (Elt F) ℓ)
    (g : Dev Cert.KernelIdeal.nD → PrngReg), True →
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0)

/-- The frame claim of the kernel at words is `FrameAt Bits`: the two printings agree definition by definition. -/
theorem frame_kernel_eq :
    quiescent_Kernel (hKernel := Cert.Kernel.Gen.facts) = FrameAt Bits := by
  chain_rfl

end Cert.Proof
-- ==== Proof.Result.lean ====
module

public import proofs.«01_k».proof.Proof.Order
public import proofs.«01_k».proof.Proof.SameProgram
public import Idealize.ShloMosaic.Lib.Pipeline.ValueKit.Geometry

@[expose] public section

set_option maxRecDepth 16384
set_option maxHeartbeats 1000000

/-! # What the launch leaves

The image is unchanged, every semaphore is back at zero, and the result is, element by element, the pixel of the image at its place
in the patch chosen for its tile. -/

noncomputable section

namespace Cert.KernelIdeal.Fold

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

/-- The pixel of channel `t` of the image at a row and a column, each taken modulo its size. -/
def pixel {α : Type} (x : S3x2048x2048.Idx → α) (t : Fin 3) (r c : ℕ) : α :=
  x (ix3 t ⟨r % 2048, Nat.mod_lt _ (by decide)⟩ ⟨c % 2048, Nat.mod_lt _ (by decide)⟩)

/-- The result: the tile at `(i 1 / 16, i 2 / 16)` is the patch whose number `p` gives for it. -/
def folded {α : Type} (x : S3x2048x2048.Idx → α) (p : S1024.Idx → ℕ) : S3x512x512.Idx → α := fun i =>
  pixel x (i 0) (tabAt p (32 * ((i 1).val / 16) + (i 2).val / 16) / 226 * 9 + (i 1).val % 16)
    (tabAt p (32 * ((i 1).val / 16) + (i 2).val / 16) % 226 * 9 + (i 2).val % 16)

variable (m : (ℓ : Loc nD τ sig) → Buf (Elt F) ℓ) (ρ : Dev nD → PrngReg)

/-- Point `t`'s blocks are those of channel `t`. -/
theorem block_place (t : Fin grid0.N) :
    cc0_transform_0 (grid0.coords t) = ![t.val, 0, 0] ∧ cc0_transform_1 (grid0.coords t) = ![t.val, 0, 0] := by
  revert t; decide +kernel

/-- The staged block of the image is its channel. -/
theorem iblk_apply (c : Dev nD) (t : Fin (cfgM m).N) (z : S1x2048x2048.Idx) (i : S3x2048x2048.Idx)
    (h0 : (i 0).val = t.val) (h1 : (i 1).val = (z 1).val) (h2 : (i 2).val = (z 2).val) :
    iblk m c 0 t z = image m i := by
  obtain rfl : c = 0 := Subsingleton.elim _ _
  have hz : (z 0).val = 0 := by have h : (z 0).val < 1 := (z 0).isLt; omega
  have e : (((cfgM m).win 0).blk t).view.emb z = i := by
    funext a
    apply Fin.ext
    refine (Pipeline.Window.rect_emb_val ((cfgM m).win 0) t z a).trans ?_
    have hp : ((cfgM m).win 0).index t = ![t.val, 0, 0] := (block_place t).1
    rw [hp]
    fin_cases a
    · show t.val * 1 + (z 0).val = (i 0).val; omega
    · show 0 * 2048 + (z 1).val = (i 1).val; omega
    · show 0 * 2048 + (z 2).val = (i 2).val; omega
  show V m 0 main_arg0 ((((cfgM m).win 0).blk t).view.emb z) = image m i
  rw [e, V_main_arg0]; rfl

/-- The result's block at point `t` is channel `t` of the folded patches. -/
theorem oblk_apply (c : Dev nD) (t : Fin (cfgM m).N) (y : S1x512x512.Idx) (i : S3x512x512.Idx)
    (h0 : (i 0).val = t.val) (h1 : (i 1).val = (y 1).val) (h2 : (i 2).val = (y 2).val) :
    oblk m c t y = folded (image m) (pickNo (image m)) i := by
  unfold oblk foldImg patchAt folded
  rw [h1, h2]
  unfold imgAt pixel
  refine iblk_apply m c t _ _ h0 ?_ ?_
  · refine congrArg (fun k => (k + (y 1).val % 16) % 2048) ?_
    unfold tabAt; exact (rowTab_apply m _).symm
  · refine congrArg (fun k => (k + (y 2).val % 16) % 2048) ?_
    unfold tabAt; exact (colTab_apply m _).symm

/-- The result's window writes its block back after every point. -/
theorem flush_out (t : Fin grid0.N) : Pipeline.Window.flushOf grid0 true cc0_transform_1 t = true :=
  (Pipeline.Window.flushOf_reads cc0_transform_1 reads0_1 hreads0_1 0 (by decide) (by decide)
    (Pipeline.Window.sep_of_coord cc0_transform_1 0 0 (fun _ => rfl) (by decide)) (P := 1) (m := 0) (by decide) rfl t).mpr (Nat.mod_one _)

/-- The result's blocks tile it. -/
theorem cover_out (c : Dev nD) (i : S3x512x512.Idx) :
    ∃ t : Fin (cfgM m).N, ((cfgM m).win 1).flush t = true ∧ i ∈ (((cfgM m).win 1).blk t).view.set := by
  refine ⟨(⟨(i 0).val, (i 0).isLt⟩ : Fin 3), flush_out _, ?_⟩
  let y : S1x512x512.Idx := ix3 ⟨0, by decide⟩ ⟨(i 1).val, (i 1).isLt⟩ ⟨(i 2).val, (i 2).isLt⟩
  have e : (((cfgM m).win 1).blk (⟨(i 0).val, (i 0).isLt⟩ : Fin 3)).view.emb y = i := by
    funext a
    apply Fin.ext
    refine (Pipeline.Window.rect_emb_val ((cfgM m).win 1) _ y a).trans ?_
    have hp : ((cfgM m).win 1).index (⟨(i 0).val, (i 0).isLt⟩ : Fin 3) = ![(i 0).val, 0, 0] := (block_place _).2
    rw [hp]
    fin_cases a
    · show (i 0).val * 1 + 0 = (i 0).val; omega
    · show 0 * 512 + (i 1).val = (i 1).val; omega
    · show 0 * 512 + (i 2).val = (i 2).val; omega
  exact Eq.subst (motive := fun j => j ∈ (((cfgM m).win 1).blk (⟨(i 0).val, (i 0).isLt⟩ : Fin 3)).view.set) e (View.emb_mem_set _ y)

/-- The result after the launch. -/
theorem result_eq (c : Dev nD) :
    (dats m 0 c).arrAt 1 (cfgM m).N = folded (image m) (pickNo (image m)) := by
  refine (dats m 0 c).arrAt_eq_of_emb 1 _ (fun t hf (y : S1x512x512.Idx) => ?_) (cover_out m c)
  rw [after0_1]
  have hp : ((cfgM m).win 1).index t = ![t.val, 0, 0] := (block_place t).2
  have he : ∀ a : Fin 3, ((((((cfgM m).win 1).blk t).view.emb y : S3x512x512.Idx) a).val = (![t.val, 0, 0] : Fin 3 → ℕ) a * S1x512x512.size a + (y a).val) := fun a =>
    (Pipeline.Window.rect_emb_val ((cfgM m).win 1) t y a).trans (by rw [hp]; rfl)
  have hz : (y 0).val < 1 := (y 0).isLt
  refine oblk_apply m c t y _ ((he 0).trans ?_) ((he 1).trans ?_) ((he 2).trans ?_)
  · show t.val * 1 + (y 0).val = t.val; omega
  · show 0 * 512 + (y 1).val = _; omega
  · show 0 * 512 + (y 2).val = _; omega

/-- The launch, read: the result, the image unchanged, the semaphores at zero. -/
theorem run_read : θ_run defs (onTc (τ := τ) (main (F := F))) ⟨m, fun _ => 0, ρ⟩ (fun r =>
    (∀ c : Dev nD, r.2.mem ((c : Thread nD τ).loc main_v41) = folded (image m) (pickNo (image m))
      ∧ r.2.mem ((c : Thread nD τ).loc main_arg0) = m ((c : Thread nD τ).loc main_arg0))
    ∧ r.2.sem = fun _ => 0) :=
  (θ_run defs _ _).mono (fun r h => ⟨fun c => ⟨(h.1.out_eq c 1).trans (result_eq m c),
    (h.1.in_eq c 0 rfl).trans ((A_eq m c 0).trans (V_main_arg0 m c))⟩, h.2⟩) (run_main m ρ (tabsOk m))

end Cert.KernelIdeal.Fold

namespace Cert.Proof

open Idealize.ShloMosaic

/-- The kernel frames its argument, at any reading of the floats. -/
theorem frame_at (F : FTy → Type) [FloatOps F] : FrameAt F := fun m g _ =>
  (θ_run _ _ _).mono (fun r h => ⟨fun c => (h.1 c).2, h.2⟩) (Cert.KernelIdeal.Fold.run_read m g)

end Cert.Proof
-- ==== Proof.RefFold.lean ====
module

public import proofs.«01_k».proof.Proof.RefOrder
public import proofs.«01_k».proof.Proof.Result

@[expose] public section

set_option maxRecDepth 16384
set_option maxHeartbeats 1000000

/-! # What the reference leaves

The reference gathers the chosen patches, one tile each, and lays the tiles out by reshapes and a transposition: element by element
the pixels of the kernel's result. -/

noncomputable section

namespace Cert.ReferenceIdeal.Fold

open Idealize.ShloMosaic Idealize.ShloMosaic.TcCoe Idealize.ShloMosaic.ValueIdx
open Idealize.ShloMosaic.StableHlo (launchContents)
open Cert.ReferenceIdeal Cert.ReferenceIdeal.Gen Cert.ReferenceIdeal.Value
open Cert.KernelIdeal.Fold (pickNo folded pixel tabAt)

variable {F : FTy → Type} [FloatOps F]
variable (V0 : Valuation τ sig (Elt F))

/-- The tiles laid out: the tile of each place, its channels apart. -/
def layout {α : Type} (x : S1024x3x16x16.Idx → α) : S3x512x512.Idx → α :=
  shapeCast S3x512x512 (transpose S3x32x16x32x16 [2, 0, 3, 1, 4]
    (shapeCast S32x32x3x16x16 (shapeCast S1024x768 x shapeCasts_S1024x3x16x16_S1024x768) shapeCasts_S1024x768_S32x32x3x16x16)
    transposes_S32x32x3x16x16_S3x32x16x32x16_2_0_3_1_4) shapeCasts_S3x32x16x32x16_S3x512x512

/-- An element of the layout is its tile's. -/
theorem layout_apply {α : Type} (x : S1024x3x16x16.Idx → α) (t : Fin 3) (r s : Fin 512) :
    layout x (ix3 t r s) = x (ix4 (⟨32 * (r.val / 16) + s.val / 16, by omega⟩ : Fin 1024) t
      (⟨r.val % 16, by omega⟩ : Fin 16) (⟨s.val % 16, by omega⟩ : Fin 16)) := by
  have hr := r.isLt
  have hs := s.isLt
  have ht := t.isLt
  unfold layout
  refine (shapeCast_apply _ _ (ix3 t r s)
    (ix5 t (⟨r.val / 16, by omega⟩ : Fin 32) (⟨r.val % 16, by omega⟩ : Fin 16) (⟨s.val / 16, by omega⟩ : Fin 32) (⟨s.val % 16, by omega⟩ : Fin 16)) ?_).trans ?_
  · rw [Shape.rowMajor_val_five, Shape.rowMajor_val_three]
    show (((t.val * 32 + r.val / 16) * 16 + r.val % 16) * 32 + s.val / 16) * 16 + s.val % 16 = (t.val * 512 + r.val) * 512 + s.val
    omega
  refine (transpose_apply _ _ _ _
    (ix5 (⟨r.val / 16, by omega⟩ : Fin 32) (⟨s.val / 16, by omega⟩ : Fin 32) t (⟨r.val % 16, by omega⟩ : Fin 16) (⟨s.val % 16, by omega⟩ : Fin 16))
    (fun b => by fin_cases b <;> rfl)).trans ?_
  refine (shapeCast_apply _ _ _ (ix2 (⟨32 * (r.val / 16) + s.val / 16, by omega⟩ : Fin 1024)
    (⟨(t.val * 16 + r.val % 16) * 16 + s.val % 16, by omega⟩ : Fin 768)) ?_).trans ?_
  · rw [Shape.rowMajor_val_five, Shape.rowMajor_val_two]
    show (32 * (r.val / 16) + s.val / 16) * 768 + ((t.val * 16 + r.val % 16) * 16 + s.val % 16)
      = (((r.val / 16 * 32 + s.val / 16) * 3 + t.val) * 16 + r.val % 16) * 16 + s.val % 16
    omega
  refine shapeCast_apply _ _ _ _ ?_
  rw [Shape.rowMajor_val_four, Shape.rowMajor_val_two]
  show (((32 * (r.val / 16) + s.val / 16) * 3 + t.val) * 16 + r.val % 16) * 16 + s.val % 16
    = (32 * (r.val / 16) + s.val / 16) * 768 + ((t.val * 16 + r.val % 16) * 16 + s.val % 16)
  omega

/-- A table read at a place in it. -/
theorem tab_at (p : S1024.Idx → ℕ) (l : Fin 1024) : tabAt p l.val = p (ix1 l) :=
  (Cert.KernelIdeal.Fold.tabAt_of_val p (ix1 l) l.val (by rfl)).symm

/-- A pixel at a place in the image. -/
theorem pixel_at {α : Type} (x : S3x2048x2048.Idx → α) (t : Fin 3) (a b : Fin 2048) : pixel x t a.val b.val = x (ix3 t a b) := by
  unfold pixel
  rw [show (⟨a.val % 2048, Nat.mod_lt _ (by decide)⟩ : Fin 2048) = a from Fin.ext (Nat.mod_eq_of_lt a.isLt),
    show (⟨b.val % 2048, Nat.mod_lt _ (by decide)⟩ : Fin 2048) = b from Fin.ext (Nat.mod_eq_of_lt b.isLt)]

/-- The reference's result, as a layout of gathered patches. -/
def laid : S3x512x512.Idx → F .f32 :=
  layout (Host.gather gather_S3x2048x2048_S1024x3_S1024x3x16x16_123_n_n_n_012_1_31616 (imageR V0) (triples (res_main_v162 V0) (res_main_v169 V0)))

/-- The patch gathered for a tile, at a channel and a place. -/
theorem patch_at (l : Fin 1024) (t : Fin 3) (u v : Fin 16) :
    Host.gather gather_S3x2048x2048_S1024x3_S1024x3x16x16_123_n_n_n_012_1_31616 (imageR V0) (triples (res_main_v162 V0) (res_main_v169 V0))
        (ix4 l t u v)
      = pixel (imageR V0) t (pickNo (imageR V0) (ix1 l) / 226 * 9 + u.val) (pickNo (imageR V0) (ix1 l) % 226 * 9 + v.val) := by
  have hk := (Cert.KernelIdeal.Fold.pick_word (imageR V0) (ix1 l)).1
  rw [gatherPatch_apply _ _ _ _ _ _ _ (by omega) (by omega) (row_apply V0 l) (col_apply V0 l)]
  exact (pixel_at (imageR V0) t ⟨_, _⟩ ⟨_, _⟩).symm

/-- It is the kernel's result. -/
theorem laid_eq : laid V0 = folded (imageR V0) (pickNo (imageR V0)) := by
  funext i
  obtain ⟨t, r, s, rfl⟩ : ∃ (t : Fin 3) (r s : Fin 512), i = ix3 t r s := ⟨i 0, i 1, i 2, by funext a; fin_cases a <;> rfl⟩
  have hr := r.isLt
  have hs := s.isLt
  unfold laid
  rw [layout_apply, patch_at]
  exact congrArg (fun k => pixel (imageR V0) t (k / 226 * 9 + r.val % 16) (k % 226 * 9 + s.val % 16))
    (tab_at (pickNo (imageR V0)) (⟨32 * (r.val / 16) + s.val / 16, by omega⟩ : Fin 1024)).symm

variable (m : (ℓ : Loc nD τ sig) → Buf (Elt F) ℓ) (ρ : Dev nD → PrngReg)

/-- The reference's run, read: the result, the image unchanged, the semaphores at zero. -/
theorem run_read : θ_run defs (onTc (τ := τ) (main (F := F))) ⟨m, fun _ => 0, ρ⟩ (fun r =>
    (∀ c : Dev nD, r.2.mem ((c : Thread nD τ).loc main_v188)
        = folded (m ((c : Thread nD τ).loc main_arg0) : S3x2048x2048.Idx → F .f32) (pickNo (m ((c : Thread nD τ).loc main_arg0) : S3x2048x2048.Idx → F .f32))
      ∧ r.2.mem ((c : Thread nD τ).loc main_arg0) = m ((c : Thread nD τ).loc main_arg0))
    ∧ r.2.sem = fun _ => 0) :=
  (θ_run defs _ _).mono (fun r h => ⟨fun c => ⟨(h c).1.trans (laid_eq (launchContents m c)), (h c).2⟩, sem_eq_zero_of_no_sems rfl r.2⟩) (run m ρ)

end Cert.ReferenceIdeal.Fold
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RefFold

@[expose] public section

namespace Cert.Proof

open Idealize.ShloMosaic Idealize.ShloMosaic.TcCoe

/-- The kernel at words frames its argument. -/
theorem frame_kernel : quiescent_Kernel (hKernel := Cert.Kernel.Gen.facts) := frame_kernel_eq ▸ frame_at Bits

/-- The kernel at extended reals frames its argument. -/
theorem frame_kernel_ideal : quiescent_KernelIdeal (hKernelIdeal := Cert.KernelIdeal.Gen.facts) := fun m g _ => frame_at Ideal m g trivial

/-- The reference frames its argument. -/
theorem frame_reference : quiescent_ReferenceIdeal (hReferenceIdeal := Cert.ReferenceIdeal.Gen.facts) := fun m g _ =>
  (θ_run _ _ _).mono (fun r h => ⟨fun c => (h.1 c).2, h.2⟩) (Cert.ReferenceIdeal.Fold.run_read m g)

/-- The two results are one array, whatever the image. -/
theorem results_agree : algebraic_KernelIdeal_ReferenceIdeal (hKernelIdeal := Cert.KernelIdeal.Gen.facts)
    (hReferenceIdeal := Cert.ReferenceIdeal.Gen.facts) := fun m g m' g' _ hagree => by
  refine ⟨fun _ => Cert.KernelIdeal.Fold.folded (Cert.KernelIdeal.Fold.image m)
      (Cert.KernelIdeal.Fold.pickNo (Cert.KernelIdeal.Fold.image m)), ?_, ?_⟩
  · exact (θ_run _ _ _).mono (fun r h => h.1) (Cert.KernelIdeal.Fold.run_read m g)
  · refine (θ_run _ _ _).mono (fun r h c => ⟨(h.1 c).1.trans ?_, (h.1 c).2⟩) (Cert.ReferenceIdeal.Fold.run_read m' g')
    obtain rfl : c = 0 := Subsingleton.elim _ _
    exact congrArg (fun x : Cert.KernelIdeal.S3x2048x2048.Idx → Ideal .f32 =>
      Cert.KernelIdeal.Fold.folded x (Cert.KernelIdeal.Fold.pickNo x)) (hagree 0)

/-- Everything claimed. -/
theorem claim : Cert.Claim :=
  ⟨Cert.Kernel.Gen.facts, Cert.KernelIdeal.Gen.facts, Cert.ReferenceIdeal.Gen.facts,
    frame_kernel, frame_kernel_ideal, frame_reference, trivial, results_agree⟩

end Cert.Proof
